-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S2048x128 : Shape := ⟨2, ![2048, 128]⟩
abbrev S2048x128x128 : Shape := ⟨3, ![2048, 128, 128]⟩
abbrev S2048x1 : Shape := ⟨2, ![2048, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x128x128 : S_.BroadcastsInDim S2048x128x128 (![] : Fin 0 → Fin S2048x128x128.rank)
  reducesTo_S2048x128x128_S_d0_1_2 : S2048x128x128.ReducesTo [0, 1, 2] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg1 : FVec F S2048x128x128 .f32) (main_v0 : IVec S2048x128x128 32) (main_v1 : IVec S2048x128x128 32) (main_v15 : IVec S_ 1) (main_v16 : FVec F S2048x1 .f32) (main_cst_4 : FVec F S_ .f32) : IVec S_ 1 :=
  let main_v17 : FVec F S2048x1 .f32 := broadcastInDim S2048x1 ![] bcast_S_S2048x1 main_cst_4
  let main_v18 : IVec S2048x1 1 := cmpf .olt main_v16 main_v17
  let main_c_5 : IVec S_ 1 := constantI S_ 1 1#1
  let main_v19 : IVec S_ 1 := (fun x v => Host.reduce IntOp.andi x v reducesTo_S2048x1_S_d0_1 h_S_) main_v18 main_c_5
  let main_v20 : IVec S_ 1 := andi main_v15 main_v19
  let main_v21 : IVec S2048x128x128 1 := cmpi .ne main_v0 main_v1
  let main_cst_6 : FVec F S_ .f32 := constant S_ .f32 0x00000000#32
  let main_v22 : FVec F S2048x128x128 .f32 := broadcastInDim S2048x128x128 ![] bcast_S_S2048x128x128 main_cst_6
  let main_v23 : IVec S2048x128x128 1 := cmpf .ogt main_arg1 main_v22
  let main_v24 : IVec S2048x128x128 1 := ori main_v21 main_v23
  let main_c_7 : IVec S_ 1 := constantI S_ 1 1#1
  let main_v25 : IVec S_ 1 := (fun x v => Host.reduce IntOp.andi x v reducesTo_S2048x128x128_S_d0_1_2 h_S_) main_v24 main_c_7
  let main_v26 : IVec S_ 1 := andi main_v20 main_v25
  main_v26

def fn {F : FTy → Type} [FloatOps F] (main_arg0 : FVec F S2048x128 .f32) (main_arg1 : FVec F S2048x128x128 .f32) (main_arg2 : FVec F S2048x128 .f32) (main_arg3 : FVec F S2048x1 .f32) : IVec S_ 1 :=
  let main_v0 : IVec S2048x128x128 32 := iotaInDim S2048x128x128 32 1
  let main_v1 : IVec S2048x128x128 32 := iotaInDim S2048x128x128 32 2
  let main_v2 : FVec F S2048x128 .f32 := Host.absf main_arg0
  let main_cst : FVec F S_ .f32 := constant S_ .f32 0x7F800000#32
  let main_v3 : FVec F S2048x128 .f32 := broadcastInDim S2048x128 ![] bcast_S_S2048x128 main_cst
  let main_v4 : IVec S2048x128 1 := cmpf .olt main_v2 main_v3
  let main_c : IVec S_ 1 := constantI S_ 1 1#1
  let main_v5 : IVec S_ 1 := (fun x v => Host.reduce IntOp.andi x v reducesTo_S2048x128_S_d0_1 h_S_) main_v4 main_c
  let main_v6 : FVec F S2048x128x128 .f32 := Host.absf main_arg1
  let main_cst_0 : FVec F S_ .f32 := constant S_ .f32 0x7F800000#32
  let main_v7 : FVec F S2048x128x128 .f32 := broadcastInDim S2048x128x128 ![] bcast_S_S2048x128x128 main_cst_0
  let main_v8 : IVec S2048x128x128 1 := cmpf .olt main_v6 main_v7
  let main_c_1 : IVec S_ 1 := constantI S_ 1 1#1
  let main_v9 : IVec S_ 1 := (fun x v => Host.reduce IntOp.andi x v reducesTo_S2048x128x128_S_d0_1_2 h_S_) main_v8 main_c_1
  let main_v10 : IVec S_ 1 := andi main_v5 main_v9
  let main_v11 : FVec F S2048x128 .f32 := Host.absf main_arg2
  let main_cst_2 : FVec F S_ .f32 := constant S_ .f32 0x7F800000#32
  let main_v12 : FVec F S2048x128 .f32 := broadcastInDim S2048x128 ![] bcast_S_S2048x128 main_cst_2
  let main_v13 : IVec S2048x128 1 := cmpf .olt main_v11 main_v12
  let main_c_3 : IVec S_ 1 := constantI S_ 1 1#1
  let main_v14 : IVec S_ 1 := (fun x v => Host.reduce IntOp.andi x v reducesTo_S2048x128_S_d0_1 h_S_) main_v13 main_c_3
  let main_v15 : IVec S_ 1 := andi main_v10 main_v14
  let main_v16 : FVec F S2048x1 .f32 := Host.absf main_arg3
  let main_cst_4 : FVec F S_ .f32 := constant S_ .f32 0x7F800000#32
  fn_part1 (F := F) main_arg1 main_v0 main_v1 main_v15 main_v16 main_cst_4
-- ==== Kernel.lean ====
abbrev S2048x128 : Shape := ⟨2, ![2048, 128]⟩
abbrev S2048x128x128 : Shape := ⟨3, ![2048, 128, 128]⟩
abbrev S2048x1 : Shape := ⟨2, ![2048, 1]⟩
abbrev S128x2048 : Shape := ⟨2, ![128, 2048]⟩
abbrev S1x2048 : Shape := ⟨2, ![1, 2048]⟩
abbrev S128x128x128 : Shape := ⟨3, ![128, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S1x128x128 : Shape := ⟨3, ![1, 128, 128]⟩

abbrev nBuf : Space → Nat
  | .hbm => 9
  | .vmem => 12
  | .smem => 0
  | _ => 0

abbrev bufTy : (tb : Table) → Fin (tcTables nBuf tb) → BufTy
  | .hbm, ⟨0, _⟩ => ⟨S2048x128, .f32⟩
  | .hbm, ⟨1, _⟩ => ⟨S2048x128x128, .f32⟩
  | .hbm, ⟨2, _⟩ => ⟨S2048x128, .f32⟩
  | .hbm, ⟨3, _⟩ => ⟨S2048x1, .f32⟩
  | .hbm, ⟨4, _⟩ => ⟨S128x2048, .f32⟩
  | .hbm, ⟨5, _⟩ => ⟨S128x2048, .f32⟩
  | .hbm, ⟨6, _⟩ => ⟨S1x2048, .f32⟩
  | .hbm, ⟨7, _⟩ => ⟨S128x2048, .f32⟩
  | .hbm, ⟨8, _⟩ => ⟨S2048x128, .f32⟩
  | .local _ .vmem, ⟨0, _⟩ => ⟨S128x128x128, .f32⟩
  | .local _ .vmem, ⟨1, _⟩ => ⟨S128x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128x128, .f32⟩
  | .local _ .vmem, ⟨11, _⟩ => ⟨S128x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1679 : BitVec 32 := Scalar.addi c0_i32 c16_i32
  let c1_i32 : BitVec 32 := 1#32
  ⟨c0_i32, v1679, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x128 : Shape := ⟨2, ![2048, 128]⟩
abbrev S2048x128x128 : Shape := ⟨3, ![2048, 128, 128]⟩
abbrev S2048x1 : Shape := ⟨2, ![2048, 1]⟩
abbrev S2048x1x1 : Shape := ⟨3, ![2048, 1, 1]⟩
abbrev S2048x1x128 : Shape := ⟨3, ![2048, 1, 128]⟩

abbrev nBuf : Space → Nat
  | .hbm => 5
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x128x128, .f32⟩
  | .hbm, ⟨2, _⟩ => ⟨S2048x128, .f32⟩
  | .hbm, ⟨3, _⟩ => ⟨S2048x1, .f32⟩
  | .hbm, ⟨4, _⟩ => ⟨S2048x128, .f32⟩
  | .local _ .vmem, ⟨0, _⟩ => ⟨S2048x128, .f32⟩
  | .local _ .vmem, ⟨1, _⟩ => ⟨S2048x128x128, .f32⟩
  | .local _ .vmem, ⟨2, _⟩ => ⟨S2048x128, .f32⟩
  | .local _ .vmem, ⟨3, _⟩ => ⟨S2048x1, .f32⟩
  | .local _ .vmem, ⟨4, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v25 : BitVec 32 := Scalar.addi c0_i32 c16_i32
  let c1_i32 : BitVec 32 := 1#32
  ⟨c0_i32, v25, c1_i32⟩
@[reducible] def k0_t2_loop : Scf.Loop 32 :=
  let c0_i32_15 : BitVec 32 := 0#32
  let c128_i32 : BitVec 32 := 128#32
  let v33 : BitVec 32 := Scalar.addi c0_i32_15 c128_i32
  let c1_i32_16 : BitVec 32 := 1#32
  ⟨c0_i32_15, v33, c1_i32_16⟩
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.CompiledFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

/-! The kernel as compiled, at any float instance: it runs to its end with its arguments unchanged and every semaphore
counter at zero. Nothing is said of what it computes, so the output window is owned at some contents throughout. -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3032000 in
/-- The body on any staging memrefs: it hands the inputs back as they were, the output and both scratch buffers at
some contents. -/
theorem body_run (c : Dev nD) (i : grid0.Coords) (arg1 : Memref sig .tc .vmem S128x128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128x128 .f32) (harg6 : arg6.IsWhole) (arg7 : Memref sig .tc .vmem S128x128 .f32) (harg7 : arg7.IsWhole)
    (x0 : Vec F S128x128x128 .f32) (x1 : Vec F S128x128 .f32) (x2 : Vec F S128x128 .f32) (x3 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ (cc0_newton_sor i arg1 harg1 arg2 harg2 arg3 harg3 arg4 harg4 arg5 harg5 arg6 harg6 arg7 harg7) K := by
  simp only [cc0_newton_sor_eq_skeleton]; unfold cc0_newton_sor_skel
  simp only [k0_part98_eq_skeleton, k0_part51_eq_skeleton, k0_part52_eq_skeleton, k0_part53_eq_skeleton,
    k0_part54_eq_skeleton, k0_part55_eq_skeleton, k0_part56_eq_skeleton, k0_part57_eq_skeleton,
    k0_part58_eq_skeleton, k0_part59_eq_skeleton, k0_part60_eq_skeleton, k0_part61_eq_skeleton,
    k0_part62_eq_skeleton, k0_part63_eq_skeleton, k0_part64_eq_skeleton, k0_part65_eq_skeleton,
    k0_part66_eq_skeleton, k0_part67_eq_skeleton, k0_part68_eq_skeleton, k0_part69_eq_skeleton,
    k0_part70_eq_skeleton, k0_part71_eq_skeleton, k0_part72_eq_skeleton, k0_part73_eq_skeleton,
    k0_part74_eq_skeleton, k0_part75_eq_skeleton, k0_part76_eq_skeleton, k0_part77_eq_skeleton,
    k0_part78_eq_skeleton, k0_part79_eq_skeleton, k0_part80_eq_skeleton, k0_part81_eq_skeleton,
    k0_part82_eq_skeleton, k0_part83_eq_skeleton, k0_part84_eq_skeleton, k0_part85_eq_skeleton,
    k0_part86_eq_skeleton, k0_part87_eq_skeleton, k0_part88_eq_skeleton, k0_part89_eq_skeleton,
    k0_part90_eq_skeleton, k0_part91_eq_skeleton, k0_part92_eq_skeleton, k0_part93_eq_skeleton,
    k0_part94_eq_skeleton, k0_part95_eq_skeleton, k0_part96_eq_skeleton, k0_part97_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [HS0]
  · iexists _, _; isplitr; swap; · iexact HS0
    ipureintro; rfl
  iexists _, _; isplitr; swap; · iexact HS1
  ipureintro; rfl

/-- The window of which nothing is said: the output. -/
def unsaid : Fin 5 → Bool := fun w => w.val == 4

/-- The proof data: inputs stay at their blocks, the output is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The invariant, with the two scratch buffers owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The body at any grid point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-- The buffer the host writes after the region, from contents nothing names: the result. -/
def tailWrites : Finset (Ref sig .tc) := {main_v4}

/-- The host's line after the region writes that buffer only. -/
theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  cases Proc.devRef_injective _ hb
  decide

/-- What the run leaves: every input array and every buffer outside `tailWrites` as the region found it. -/
abbrev post := Pipeline.RDat.FramePostR (cfgs 0) (fun c => (dats m 0 c).toRForget unsaid) tailWrites (V m)

set_option backward.isDefEq.respectTransparency.types false in
set_option maxHeartbeats 800000 in
/-- The launch: every execution ends, at the account above, with every semaphore at zero. -/
theorem run_quiet : θ_run defs (onTc (τ := τ) (main (F := F))) (s₀ m ρ) (fun r => post m r ∧ r.2.sem = fun _ => 0) :=
  Pipeline.θ_run_frame_around_T_forget (Q' := _) cfgs (dats m) (0 : Fin 1) launch0 defs₀ Variants.none unsaid tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_arg0 (Finset.mem_sdiff.mpr ⟨Pipeline.mem_restRefs_of main_arg0 (by decide) (by decide), by decide⟩)).trans (V_main_arg0 m c),
      (Pipeline.RDat.FramePostR.arr_in h.1 c 0 rfl).trans ((A_eq m c 0).trans (V_main_arg1 m c)),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩)
    (run_quiet m ρ)

/-- The frame: the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

end Cert.Proof.Kernel

end
-- ==== Proof.Sweep.lean ====
module

public import proofs.«01_k».proof.Proof.Gen.KernelIdeal.Loops
public import Idealize.ShloMosaic.Lib.Pipeline.FrameBody
public import Idealize.ShloMosaic.Lib.Pipeline.Value
public import Idealize.ShloMosaic.Lib.ValueIdx
public import Idealize.ShloMosaic.Lib.ValueLayout

/-! One trip of the kernel's Newton loop as a rolled recursion.

The kernel writes its 128 substitution steps out one after the other.  Here the same trip is stated over a row
number: `rhsAt n` is the running right-hand side after `n` rows, `sweep` the row block the trip leaves in the
output window, `newtonStep` the pair the trip yields.  `trip_eq` says that the trip the program runs yields exactly
this, whatever the output window held before. -/

@[expose] public section

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

/-- Row `i` of a 128×128 block is inside the block. -/
theorem rowSlices (i : Fin 128) : S128x128.Slices ![i.val, 0] S1x128 :=
  ⟨rfl, fun a => by fin_cases a <;> simp [Shape.size] <;> omega⟩

/-- Row `i` as a store's rectangle is inside the block. -/
theorem rowIn (i : Fin 128) : ∀ a, (![i.val, 0] : Fin 2 → Nat) a + S1x128.size a ≤ S128x128.size a :=
  fun a => by fin_cases a <;> simp [Shape.size] <;> omega

/-- Slab `i` of a 128×128×128 block is inside the block. -/
theorem slabIn (i : Fin 128) :
    ∀ a, (![i.val, 0, 0] : Fin 3 → Nat) a + S1x128x128.size a ≤ S128x128x128.size a :=
  fun a => by fin_cases a <;> simp [Shape.size] <;> omega

/-- Row `i` of a block, as a vector over the lanes. -/
def rowOf (v : FVec F S128x128 .f32) (i : Fin 128) : FVec F S128 .f32 :=
  shapeCast S128 (extractStridedSlice S1x128 ![i.val, 0] v (rowSlices i)) shapeCasts_S1x128_S128

/-- A vector over the lanes, repeated in every row. -/
def spread (r : FVec F S128 .f32) : FVec F S128x128 .f32 :=
  broadcastTo S128x128 (shapeCast S1x128 r shapeCasts_S128_S1x128) broadcasts_S1x128_S128x128

/-- Slab `i` of the transposed-matrix scratch, as the kernel loads it. -/
def slab (arg6 : Memref sig .tc .vmem S128x128x128 .f32) (X : BufTy.Contents (Elt F) arg6.view.ty) (i : Fin 128) :
    FVec F S128x128 .f32 :=
  shapeCast S128x128
    (arg6.view.readAt (Elt F) (Rect.unit (s := S128x128x128) ![i.val, 0, 0] S1x128x128.size (slabIn i)).toLoadRect X)
    shapeCasts_S1x128x128_S128x128

/-- The relaxed update of unknown `i`: the right-hand side's row times the scaled inverse diagonal's. -/
def stepRow (s rhs : FVec F S128x128 .f32) (i : Fin 128) : FVec F S128 .f32 := mulf (rowOf rhs i) (rowOf s i)

/-- The running right-hand side after the first `n` rows. -/
def rhsAt (T : Fin 128 → FVec F S128x128 .f32) (s rhs : FVec F S128x128 .f32) : Nat → FVec F S128x128 .f32
  | 0 => rhs
  | n + 1 =>
    if h : n < 128 then
      subf (rhsAt T s rhs n) (mulf (spread (stepRow s (rhsAt T s rhs n) ⟨n, h⟩)) (T ⟨n, h⟩))
    else rhs

/-- The update of unknown `i` in the sweep. -/
def sweepRow (T : Fin 128 → FVec F S128x128 .f32) (s rhs : FVec F S128x128 .f32) (i : Fin 128) : FVec F S128 .f32 :=
  stepRow s (rhsAt T s rhs i.val) i

/-- Row `i` of the new iterate, as the kernel stores it. -/
def newRow (T : Fin 128 → FVec F S128x128 .f32) (s rhs x : FVec F S128x128 .f32) (i : Fin 128) : FVec F S1x128 .f32 :=
  shapeCast S1x128 (subf (rowOf x i) (sweepRow T s rhs i)) shapeCasts_S128_S1x128

/-- The pieces that stores of rows `0 … n − 1` leave, the last first. -/
def rowPieces (P : Fin 128 → FVec F S1x128 .f32) : Nat → List (View.Piece (Elt F) S128x128 .f32)
  | 0 => []
  | n + 1 =>
    if h : n < 128 then
      ⟨Rect.unit (s := S128x128) ![(⟨n, h⟩ : Fin 128).val, 0] S1x128.size (rowIn ⟨n, h⟩), P ⟨n, h⟩⟩ :: rowPieces P n
    else []

/-- The block whose row `i` is `P i`. -/
def ofRows (P : Fin 128 → FVec F S1x128 .f32) : FVec F S128x128 .f32 := fun y => P (y 0) (ix2 (0 : Fin 1) (y 1))

/-- The row rectangle `i` places lane `l` at `(i, l)`. -/
theorem row_emb (i : Fin 128) (l : Fin 128) :
    (Rect.unit (s := S128x128) ![i.val, 0] S1x128.size (rowIn i)).emb (ix2 (0 : Fin 1) l) = (ix2 i l) := by
  funext a
  refine Fin.ext ?_
  rw [Rect.emb_apply]
  match a with
  | ⟨0, _⟩ => show i.val + 1 * 0 = i.val; omega
  | ⟨1, _⟩ => show 0 + 1 * l.val = l.val; omega

/-- The pieces of the first `n` rows hold row `i < n` of `P`. -/
theorem canon_rowPieces (P : Fin 128 → FVec F S1x128 .f32) (n : Nat) (hn : n ≤ 128) (i l : Fin 128) (hi : i.val < n) :
    View.canon (rowPieces P n) (ix2 i l) = P i (ix2 (0 : Fin 1) l) := by
  induction n with
  | zero => exact absurd hi (Nat.not_lt_zero _)
  | succ n ih =>
    have h : n < 128 := hn
    rw [rowPieces, dif_pos h]
    by_cases e : i.val = n
    · obtain rfl : i = ⟨n, h⟩ := Fin.ext e
      rw [← row_emb, View.canon_cons_emb]
    · rw [View.canon_cons_of_not_mem, ih (by omega) (by omega)]
      intro hm
      obtain ⟨y, hy⟩ := LoadRect.exists_idx_of_mem _ hm
      have h0 : (y 0).val < 1 := (y 0).isLt
      have h1 : n + 1 * (y 0).val = i.val := congrArg Fin.val (congrFun hy 0)
      omega

/-- After all 128 row stores, a load of the whole block reads the block of the rows. -/
theorem readCov_rowPieces (v : View sig .tc .vmem S128x128 .f32) (P : Fin 128 → FVec F S1x128 .f32) :
    v.readCov (rowPieces P 128)
      (Rect.unit (s := S128x128) ![0, 0] S128x128.size inb_S128x128_S128x128_0_0).toLoadRect = ofRows P := by
  rw [View.readCov_eq_canon']
  funext y
  refine Eq.trans ?_ (canon_rowPieces P 128 le_rfl (y 0) (y 1) (y 0).isLt)
  refine congrArg _ ?_
  funext a
  refine Fin.ext ?_
  rw [LoadRect.idx_apply]
  match a with
  | ⟨0, _⟩ => show 0 + 1 * (y 0).val = (y 0).val; omega
  | ⟨1, _⟩ => show 0 + 1 * (y 1).val = (y 1).val; omega

/-- The scaled inverse diagonal `ω / (A_ii + 3 x²)`. -/
def sinv (om : FVec F S128 .f32) (ad x : FVec F S128x128 .f32) : FVec F S128x128 .f32 :=
  divf (spread om) (addf ad (mulf (mulf (broadcast S128x128 (Scalar.ofBits .f32 0x40400000#32)) x) x))

/-- The new iterate of one sweep. -/
def sweep (T : Fin 128 → FVec F S128x128 .f32) (s rhs x : FVec F S128x128 .f32) : FVec F S128x128 .f32 :=
  ofRows (newRow T s rhs x)

/-- One Newton trip: the new iterate, and the residual carried along. -/
def newtonStep (T : Fin 128 → FVec F S128x128 .f32) (om : FVec F S128 .f32) (ad : FVec F S128x128 .f32)
    (p : FVec F S128x128 .f32 × FVec F S128x128 .f32) : FVec F S128x128 .f32 × FVec F S128x128 .f32 :=
  let xn := sweep T (sinv om ad p.1) p.2 p.1
  (xn, addf (rhsAt T (sinv om ad p.1) p.2 128) (subf (mulf (mulf xn xn) xn) (mulf (mulf p.1 p.1) p.1)))

/-- The stores of one trip are the new iterate's rows. -/
theorem trip_pieces (arg6 : Memref sig .tc .vmem S128x128x128 .f32) (om : FVec F S128 .f32) (ad : FVec F S128x128 .f32)
    (X : BufTy.Contents (Elt F) arg6.view.ty) (acc : FVec F S128x128 .f32 × FVec F S128x128 .f32) :
    trip_k0_t1.sl.HW_arg5_128 arg6 om ad X acc
      = rowPieces (newRow (slab arg6 X) (sinv om ad acc.1) acc.2 acc.1) 128 := rfl

/-- The right-hand side after the trip's 128 rows. -/
theorem trip_rhs (arg6 : Memref sig .tc .vmem S128x128x128 .f32) (om : FVec F S128 .f32) (ad : FVec F S128x128 .f32)
    (X : BufTy.Contents (Elt F) arg6.view.ty) (acc : FVec F S128x128 .f32 × FVec F S128x128 .f32) :
    subf (trip_k0_t1.sl.r_124 arg6 om ad X acc) (mulf (trip_k0_t1.sl.r_128 arg6 om ad X acc) (trip_k0_t1.sl.r_127 arg6 X))
      = rhsAt (slab arg6 X) (sinv om ad acc.1) acc.2 128 := rfl

/-- The trip the program runs yields the rolled step. -/
theorem trip_eq (𝒱 : Variants) (c : Dev nD) (bd : Option 𝒱.V) (i : grid0.Coords)
    (arg1 : Memref sig .tc .vmem S128x128x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128x128 .f32) (harg6 : arg6.IsWhole)
    (arg7 : Memref sig .tc .vmem S128x128 .f32) (harg7 : arg7.IsWhole) (om : FVec F S128 .f32) (ad : FVec F S128x128 .f32)
    (X : BufTy.Contents (Elt F) arg6.view.ty) (k : Fin k0_t1_loop.trips)
    (acc : FVec F S128x128 .f32 × FVec F S128x128 .f32) (f : BufTy.Contents (Elt F) arg5.view.ty) :
    tripR_k0_t1 𝒱 c bd i arg1 harg1 arg2 harg2 arg3 harg3 arg4 harg4 arg5 harg5 arg6 harg6 arg7 harg7 om ad X k acc f
      = newtonStep (slab arg6 X) om ad acc := by
  have hx : k0_pay2 (trip_k0_t1.sl.v3865 arg5 arg6 om ad X acc) = sweep (slab arg6 X) (sinv om ad acc.1) acc.2 acc.1 := by
    unfold k0_pay2
    dsimp only
    rw [shapeCast_self]
    unfold trip_k0_t1.sl.v3865
    rw [trip_pieces]
    exact readCov_rowPieces _ _
  delta tripR_k0_t1 trip_k0_t1
  refine Prod.ext hx ?_
  dsimp only [newtonStep]
  rw [← hx, ← trip_rhs]
  rfl

end Cert.Proof.KernelIdeal
-- ==== Proof.Body.lean ====
module

public import proofs.«01_k».proof.Proof.Gen.KernelIdeal.Frame
public import proofs.«01_k».proof.Proof.Sweep
public import Idealize.ShloMosaic.Lib.WritesUnit

/-! The kernel's body at one grid point, run on any staging memrefs: what it leaves in the output window. -/

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state before trip `n` of the kernel's Newton loop. -/
def newtonIter (T : Fin 128 → FVec F S128x128 .f32) (om : FVec F S128 .f32) (ad : FVec F S128x128 .f32)
    (init : FVec F S128x128 .f32 × FVec F S128x128 .f32) : Nat → FVec F S128x128 .f32 × FVec F S128x128 .f32
  | 0 => init
  | n + 1 => newtonStep T om ad (newtonIter T om ad init n)

/-- The carried value of the loop the program runs is the rolled iteration, whatever the output window held. -/
theorem st_eq (𝒱 : Variants) (c : Dev nD) (bd : Option 𝒱.V) (i : grid0.Coords)
    (arg1 : Memref sig .tc .vmem S128x128x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128x128 .f32) (harg6 : arg6.IsWhole)
    (arg7 : Memref sig .tc .vmem S128x128 .f32) (harg7 : arg7.IsWhole) (om : FVec F S128 .f32) (ad : FVec F S128x128 .f32)
    (X : BufTy.Contents (Elt F) arg6.view.ty) (G : BufTy.Contents (Elt F) arg5.view.ty)
    (init : FVec F S128x128 .f32 × FVec F S128x128 .f32) (n : Nat) (hn : n ≤ k0_t1_loop.trips) :
    (st_k0_t1 𝒱 c bd i arg1 harg1 arg2 harg2 arg3 harg3 arg4 harg4 arg5 harg5 arg6 harg6 arg7 harg7 om ad X G init n).1
      = newtonIter (slab arg6 X) om ad init n := by
  induction n with
  | zero => rfl
  | succ n ih =>
    rw [st_k0_t1_succ 𝒱 c bd i arg1 harg1 arg2 harg2 arg3 harg3 arg4 harg4 arg5 harg5 arg6 harg6 arg7 harg7 om ad X G init ⟨n, hn⟩]
    rw [trip_eq, ih (Nat.le_of_lt hn)]
    rfl

/-- A store of the whole block, read back. -/
theorem read_whole_store (v : View sig .tc .vmem S128x128 .f32) (f : v.ty.Contents (Elt F)) (w : FVec F S128x128 .f32)
    (L : List (View.Piece (Elt F) S128x128 .f32)) :
    v.read (Elt F) (v.writes (Elt F) f
      (⟨Rect.unit (s := S128x128) ![0, 0] ![128, 128] inb_S128x128_S128x128_0_0, w⟩ :: L)) = w := by
  funext y
  exact View.read_writes_cons_unit_of_mem (s := S128x128) v f (size := ![128, 128]) inb_S128x128_S128x128_0_0 w L y y rfl
    fun a => by fin_cases a <;> simp

/-- The loop has sixteen trips. -/
theorem trips_eq : k0_t1_loop.trips = 16 := by decide

/-- The value the loop yields. -/
theorem st_last (𝒱 : Variants) (c : Dev nD) (bd : Option 𝒱.V) (i : grid0.Coords)
    (arg1 : Memref sig .tc .vmem S128x128x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128x128 .f32) (harg6 : arg6.IsWhole)
    (arg7 : Memref sig .tc .vmem S128x128 .f32) (harg7 : arg7.IsWhole) (om : FVec F S128 .f32) (ad : FVec F S128x128 .f32)
    (X : BufTy.Contents (Elt F) arg6.view.ty) (G : BufTy.Contents (Elt F) arg5.view.ty)
    (init : FVec F S128x128 .f32 × FVec F S128x128 .f32) :
    (st_k0_t1 𝒱 c bd i arg1 harg1 arg2 harg2 arg3 harg3 arg4 harg4 arg5 harg5 arg6 harg6 arg7 harg7 om ad X G init
      (Scf.trips k0_t1_loop.lb k0_t1_loop.ub k0_t1_loop.st)).1 = newtonIter (slab arg6 X) om ad init 16 := by
  have h : Scf.trips k0_t1_loop.lb k0_t1_loop.ub k0_t1_loop.st = 16 := trips_eq
  rw [h]
  exact st_eq _ _ _ _ _ _ _ _ _ _ _ _ _ _ _ _ _ _ _ _ _ _ _ _ (le_of_eq trips_eq.symm)

set_option maxHeartbeats 1500000 in
/-- The body's run, with the values the loop starts from as its own finds: on whole staging buffers holding the
inputs' blocks, the body leaves in the output window the first component of the sixteenth iterate. -/
def bodyRun (c : Dev nD) (i : grid0.Coords) (arg1 : Memref sig .tc .vmem S128x128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128x128 .f32) (harg6 : arg6.IsWhole) (arg7 : Memref sig .tc .vmem S128x128 .f32) (harg7 : arg7.IsWhole)
    (x0 : Vec F S128x128x128 .f32) (x1 : Vec F S128x128 .f32) (x2 : Vec F S128x128 .f32) (x3 : Vec F S1x128 .f32)
:
    Σ' (om : FVec F S128 .f32) (ad : FVec F S128x128 .f32) (X : BufTy.Contents (Elt F) arg6.view.ty),
    { init : FVec F S128x128 .f32 × FVec F S128x128 .f32 // ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare ((newtonIter (slab arg6 X) om ad init 16).1) ∗ (∃ d, owns (c : Thread nD τ) arg6 fullShare d) ∗ (∃ d, owns (c : Thread nD τ) arg7 fullShare d)) -∗ K ⟨⟩))
      ⊢ wp frame (wpE (defs₀ (F := F)) Variants.none c none) E (cc0_newton_sor i arg1 harg1 arg2 harg2 arg3 harg3 arg4 harg4 arg5 harg5 arg6 harg6 arg7 harg7) K } := by
  refine ⟨?_, ?_, ?_, ?_, fun E K => ?run⟩
  case run =>
    simp only [cc0_newton_sor_eq_skeleton]; unfold cc0_newton_sor_skel
    simp only [k0_part98_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_whole_store, st_last]
    isplitl [HS0]
    · iexists _, _; isplitr; swap; · iexact HS0
      ipureintro; rfl
    iexists _, _; isplitr; swap; · iexact HS1
    ipureintro; rfl

end Cert.Proof.KernelIdeal

end
-- ==== Proof.Block.lean ====
module

public import proofs.«01_k».proof.Proof.Body

/-! The values the kernel's Newton loop starts from, in terms of the input blocks alone. -/

@[expose] public section

set_option maxRecDepth 65536
set_option maxHeartbeats 600000

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Column `i` of every matrix of the block, lanes last: entry `(j, l)` is `A[l, j, i]`. -/
def column (x0 : Vec F S128x128x128 .f32) (i : Fin 128) : FVec F S128x128 .f32 := fun y => x0 (ix3 (y 1) (y 0) i)

/-- The diagonals of the block's matrices, lanes last. -/
def diagonal (x0 : Vec F S128x128x128 .f32) : FVec F S128x128 .f32 := fun y => x0 (ix3 (y 1) (y 0) (y 0))

/-- The relaxation factors of the block's lanes. -/
def relax (x3 : Vec F S1x128 .f32) : FVec F S128 .f32 := fun y => x3 (ix2 (0 : Fin 1) (y 0))

/-- The residual summed over the first `n` columns. -/
def resAt (T : Fin 128 → FVec F S128x128 .f32) (x b : FVec F S128x128 .f32) : Nat → FVec F S128x128 .f32
  | 0 => subf (mulf (mulf x x) x) b
  | n + 1 =>
    if h : n < 128 then addf (resAt T x b n) (mulf (T ⟨n, h⟩) (spread (rowOf x ⟨n, h⟩)))
    else resAt T x b n

/-- What one grid point leaves in the output window, of the four input blocks. -/
def blockOut (x0 : Vec F S128x128x128 .f32) (x1 x2 : Vec F S128x128 .f32) (x3 : Vec F S1x128 .f32) : FVec F S128x128 .f32 :=
  (newtonIter (column x0) (relax x3) (diagonal x0) (x1, resAt (column x0) x1 x2 128) 16).1

/-- A slab of the scratch as it reads after the transposed block has been stored. -/
def slabCov (v : View sig .tc .vmem S128x128x128 .f32) (L : List (View.Piece (Elt F) S128x128x128 .f32)) (i : Fin 128) :
    FVec F S128x128 .f32 :=
  shapeCast S128x128
    (v.readCov L (Rect.unit (s := S128x128x128) ![i.val, 0, 0] S1x128x128.size (slabIn i)).toLoadRect)
    shapeCasts_S1x128x128_S128x128

/-- Entry row `(i, i, ·)` of the scratch is inside it. -/
theorem diagIn (i : Fin 128) : ∀ a, (![i.val, i.val, 0] : Fin 3 → Nat) a + S1x1x128.size a ≤ S128x128x128.size a :=
  fun a => by fin_cases a <;> simp [Shape.size] <;> omega

/-- The row of diagonal entries `i` as the kernel copies it. -/
def diagRow (v : View sig .tc .vmem S128x128x128 .f32) (L : List (View.Piece (Elt F) S128x128x128 .f32)) (i : Fin 128) :
    FVec F S1x128 .f32 :=
  shapeCast S1x128
    (shapeCast S128
      (v.readCov L (Rect.unit (s := S128x128x128) ![i.val, i.val, 0] S1x1x128.size (diagIn i)).toLoadRect)
      shapeCasts_S1x1x128_S128)
    shapeCasts_S128_S1x128

section
variable (c : Dev nD) (arg1 : Memref sig .tc .vmem S128x128x128 .f32) (harg1 : arg1.IsWhole)
  (arg2 : Memref sig .tc .vmem S128x128 .f32) (harg2 : arg2.IsWhole)
  (arg3 : Memref sig .tc .vmem S128x128 .f32) (harg3 : arg3.IsWhole) (arg6 : Memref sig .tc .vmem S128x128x128 .f32)
  (x0 : Vec F S128x128x128 .f32) (x1 x2 : Vec F S128x128 .f32)

/-- The diagonal stores are the diagonal rows. -/
theorem diag_pieces :
    bodyRun.sl.HS1_128 c arg1 harg1 arg6 x0 = rowPieces (diagRow arg6.view (bodyRun.sl.HS0_1 c arg1 harg1 x0)) 128 := rfl

/-- The residual the loop starts from, rolled. -/
theorem init_res :
    k0_pay1 (bodyRun.sl.v3 c arg2 harg2 x1) (bodyRun.sl.r_46 c arg1 harg1 arg2 harg2 arg3 harg3 arg6 x0 x1 x2)
        (bodyRun.sl.r_47 c arg1 harg1 arg6 x0) (bodyRun.sl.r_48 c arg2 harg2 x1) (bodyRun.sl.v1671 c arg1 harg1 arg6 x0)
      = resAt (slabCov arg6.view (bodyRun.sl.HS0_1 c arg1 harg1 x0)) (bodyRun.sl.v3 c arg2 harg2 x1)
          (shapeCast S128x128
            (arg3.view.readAt (Elt F) (Rect.unit (s := S128x128) ![0, 0] S128x128.size inb_S128x128_S128x128_0_0).toLoadRect
              (harg3.unread x2)) rfl) 128 := rfl

/-- The scratch, after the transposed block's store, at an entry. -/
theorem scratch_apply (j i l : Fin 128) :
    View.canon (bodyRun.sl.HS0_1 c arg1 harg1 x0) (ix3 i j l) = x0 (ix3 l j i) := by
  have hemb : (ix3 i j l : S128x128x128.Idx)
      = (Rect.unit (s := S128x128x128) ![0, 0, 0] S128x128x128.size inb_S128x128x128_S128x128x128_0_0_0).emb (ix3 i j l) := by
    funext a
    refine Fin.ext ?_
    rw [Rect.emb_apply]
    match a with
    | ⟨0, _⟩ => show i.val = 0 + 1 * i.val; omega
    | ⟨1, _⟩ => show j.val = 0 + 1 * j.val; omega
    | ⟨2, _⟩ => show l.val = 0 + 1 * l.val; omega
  unfold bodyRun.sl.HS0_1
  conv_lhs => rw [hemb]
  rw [View.canon_cons_emb]
  unfold bodyRun.sl.v10 bodyRun.sl.v7
  rw [shapeCast_self]
  rw [transpose_apply _ _ _ _ (ix3 l j i) (fun b => match b with | ⟨0, _⟩ => rfl | ⟨1, _⟩ => rfl | ⟨2, _⟩ => rfl)]
  refine (congrFun (harg1.read_unread x0) _).trans (congrArg x0 ?_)
  funext a
  refine Fin.ext ?_
  rw [LoadRect.idx_apply]
  match a with
  | ⟨0, _⟩ => show 0 + 1 * l.val = l.val; omega
  | ⟨1, _⟩ => show 0 + 1 * j.val = j.val; omega
  | ⟨2, _⟩ => show 0 + 1 * i.val = i.val; omega

/-- A slab of the scratch is a column of the block. -/
theorem slabCov_eq (v : View sig .tc .vmem S128x128x128 .f32) (i : Fin 128) :
    slabCov v (bodyRun.sl.HS0_1 c arg1 harg1 x0) i = column x0 i := by
  funext y
  obtain ⟨j, l, rfl⟩ : ∃ j l : Fin 128, y = ix2 j l := ⟨y 0, y 1, eq_ix2 y⟩
  unfold slabCov
  rw [View.readCov_eq_canon']
  refine (shapeCast_1ab_ab_apply _ _ j l).trans ?_
  refine Eq.trans (congrArg _ ?_) (scratch_apply c arg1 harg1 x0 j i l)
  funext a
  refine Fin.ext ?_
  rw [LoadRect.idx_apply]
  match a with
  | ⟨0, _⟩ => show i.val + 1 * 0 = i.val; omega
  | ⟨1, _⟩ => show 0 + 1 * j.val = j.val; omega
  | ⟨2, _⟩ => show 0 + 1 * l.val = l.val; omega

/-- The rows copied out of the scratch make the block of diagonals. -/
theorem diagRow_eq (v : View sig .tc .vmem S128x128x128 .f32) :
    ofRows (diagRow v (bodyRun.sl.HS0_1 c arg1 harg1 x0)) = diagonal x0 := by
  funext y
  obtain ⟨i, l, rfl⟩ : ∃ j l : Fin 128, y = ix2 j l := ⟨y 0, y 1, eq_ix2 y⟩
  show diagRow v (bodyRun.sl.HS0_1 c arg1 harg1 x0) i (ix2 (0 : Fin 1) l) = x0 (ix3 l i i)
  unfold diagRow
  rw [View.readCov_eq_canon']
  refine (shapeCast_a_1a_apply _ _ (0 : Fin 1) l).trans ?_
  refine (shapeCast_apply (s := S1x1x128) (t := S128) _ _ (ix1 l) (ix3 (0 : Fin 1) (0 : Fin 1) l) (by
    rw [Shape.rowMajor_val_three, Shape.rowMajor_val_one]
    show (0 * 1 + 0) * 128 + l.val = l.val
    omega)).trans ?_
  refine Eq.trans (congrArg _ ?_) (scratch_apply c arg1 harg1 x0 i i l)
  funext a
  refine Fin.ext ?_
  rw [LoadRect.idx_apply]
  match a with
  | ⟨0, _⟩ => show i.val + 1 * 0 = i.val; omega
  | ⟨1, _⟩ => show i.val + 1 * 0 = i.val; omega
  | ⟨2, _⟩ => show 0 + 1 * l.val = l.val; omega

end

/-- A load of a whole 128×128 staging buffer reads its contents. -/
theorem load_whole (m : Memref sig .tc .vmem S128x128 .f32) (hm : m.IsWhole) (x : Vec F S128x128 .f32)
    (h : S128x128.ShapeCasts S128x128) :
    shapeCast S128x128 (m.view.readAt (Elt F)
      (Rect.unit (s := S128x128) ![0, 0] S128x128.size inb_S128x128_S128x128_0_0).toLoadRect (hm.unread x)) h = x := by
  funext y
  refine (congrFun (shapeCast_self (s := S128x128) _ h) y).trans ?_
  refine (congrFun (hm.read_unread x) _).trans (congrArg x ?_)
  funext a
  refine Fin.ext ?_
  rw [LoadRect.idx_apply]
  match a with
  | ⟨0, _⟩ => show 0 + 1 * (y 0).val = (y 0).val; omega
  | ⟨1, _⟩ => show 0 + 1 * (y 1).val = (y 1).val; omega

/-- The loaded relaxation factors. -/
theorem load_relax (c : Dev nD) (arg4 : Memref sig .tc .vmem S1x128 .f32) (harg4 : arg4.IsWhole) (x3 : Vec F S1x128 .f32) :
    bodyRun.sl.v1 c arg4 harg4 x3 = relax x3 := by
  funext y
  obtain ⟨l, rfl⟩ : ∃ l : Fin 128, y = ix1 l := ⟨y 0, eq_ix1 y⟩
  unfold bodyRun.sl.v1
  refine (shapeCast_1a_a_apply _ _ l).trans ?_
  refine (congrFun (harg4.read_unread x3) _).trans (congrArg x3 ?_)
  funext a
  refine Fin.ext ?_
  rw [LoadRect.idx_apply]
  match a with
  | ⟨0, _⟩ => rfl
  | ⟨1, _⟩ => show 0 + 1 * l.val = l.val; omega

/-- Equal data give equal iterates. -/
theorem iter_congr {T T' : Fin 128 → FVec F S128x128 .f32} {om om' : FVec F S128 .f32} {ad ad' : FVec F S128x128 .f32}
    {p p' : FVec F S128x128 .f32 × FVec F S128x128 .f32} (hT : T = T') (hom : om = om') (had : ad = ad') (hp : p = p')
    (n : Nat) : newtonIter T om ad p n = newtonIter T' om' ad' p' n := by
  subst hT hom had hp; rfl

/-- The values the run found are those of the block. -/
theorem bodyRun_out (c : Dev nD) (i : grid0.Coords) (arg1 : Memref sig .tc .vmem S128x128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128x128 .f32) (harg6 : arg6.IsWhole) (arg7 : Memref sig .tc .vmem S128x128 .f32) (harg7 : arg7.IsWhole)
    (x0 : Vec F S128x128x128 .f32) (x1 : Vec F S128x128 .f32) (x2 : Vec F S128x128 .f32) (x3 : Vec F S1x128 .f32)
    (R : _) (hR : R = bodyRun c i arg1 harg1 arg2 harg2 arg3 harg3 arg4 harg4 arg5 harg5 arg6 harg6 arg7 harg7 x0 x1 x2 x3) :
    (newtonIter (slab arg6 R.2.2.1) R.1 R.2.1 R.2.2.2.1 16).1 = blockOut x0 x1 x2 x3 := by
  have hcov : slabCov arg6.view (bodyRun.sl.HS0_1 c arg1 harg1 x0) = column x0 := funext fun i => slabCov_eq c arg1 harg1 x0 arg6.view i
  have hT : slab arg6 R.2.2.1 = column x0 := by
    rw [← hcov, hR]; rfl
  have hom : R.1 = relax x3 := by rw [← load_relax c arg4 harg4, hR]; rfl
  have had : R.2.1 = diagonal x0 := by
    have h : R.2.1 = bodyRun.sl.v651 c arg1 harg1 arg6 arg7 x0 := by rw [hR]; rfl
    rw [h]
    unfold bodyRun.sl.v651
    rw [diag_pieces]
    exact (readCov_rowPieces _ _).trans (diagRow_eq c arg1 harg1 x0 arg6.view)
  have hx : bodyRun.sl.v3 c arg2 harg2 x1 = x1 := load_whole arg2 harg2 x1 _
  have hi : R.2.2.2.1 = (x1, resAt (column x0) x1 x2 128) := by
    have h : R.2.2.2.1 = (bodyRun.sl.v3 c arg2 harg2 x1,
        k0_pay1 (bodyRun.sl.v3 c arg2 harg2 x1) (bodyRun.sl.r_46 c arg1 harg1 arg2 harg2 arg3 harg3 arg6 x0 x1 x2)
        (bodyRun.sl.r_47 c arg1 harg1 arg6 x0) (bodyRun.sl.r_48 c arg2 harg2 x1) (bodyRun.sl.v1671 c arg1 harg1 arg6 x0)) := by
      rw [hR]; rfl
    rw [h, init_res, hcov, hx, load_whole]
  unfold blockOut
  exact congrArg Prod.fst (iter_congr hT hom had hi 16)

/-- The body's triple: on whole staging buffers holding the inputs' blocks it leaves `blockOut` in the output window. -/
theorem body_run (c : Dev nD) (i : grid0.Coords) (arg1 : Memref sig .tc .vmem S128x128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128x128 .f32) (harg6 : arg6.IsWhole) (arg7 : Memref sig .tc .vmem S128x128 .f32) (harg7 : arg7.IsWhole)
    (x0 : Vec F S128x128x128 .f32) (x1 : Vec F S128x128 .f32) (x2 : Vec F S128x128 .f32) (x3 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOut x0 x1 x2 x3) ∗ (∃ d, owns (c : Thread nD τ) arg6 fullShare d) ∗ (∃ d, owns (c : Thread nD τ) arg7 fullShare d)) -∗ K ⟨⟩))
      ⊢ wp frame (wpE (defs₀ (F := F)) Variants.none c none) E (cc0_newton_sor i arg1 harg1 arg2 harg2 arg3 harg3 arg4 harg4 arg5 harg5 arg6 harg6 arg7 harg7) K := by
  have h := (bodyRun c i arg1 harg1 arg2 harg2 arg3 harg3 arg4 harg4 arg5 harg5 arg6 harg6 arg7 harg7 x0 x1 x2 x3).2.2.2.2 E K
  rw [bodyRun_out c i arg1 harg1 arg2 harg2 arg3 harg3 arg4 harg4 arg5 harg5 arg6 harg6 arg7 harg7 x0 x1 x2 x3 _ rfl] at h
  exact h

end Cert.Proof.KernelIdeal

end
-- ==== Proof.KernelFrame.lean ====
module

public import proofs.«01_k».proof.Proof.Block
public import Idealize.ShloMosaic.Lib.Pipeline.Value
public import Idealize.ShloMosaic.Lib.Claim

/-! The kernel's run: at the end the region's output array holds, block by block, what each grid point computed, and
the result is its transpose; the arguments are as launched and every semaphore is at zero. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`. -/
def outBlock (c : Dev nD) (t : Fin cfg0.N) : FVec F S128x128 .f32 :=
  blockOut (iblk m c 0 t) (iblk m c 1 t) (iblk m c 2 t) (iblk m c 3 t)

/-- The pipeline's proof data: inputs stay at their blocks, the output window holds `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The invariant, with the two scratch buffers owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, inv_eq]
  unfold outBlock
  iintro ⟨⟨⟨HS0, HS1⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What every buffer holds after the run, by the library's account. -/
abbrev post := Pipeline.FramePost cfgs (dats m) 0 (Pipeline.afterTail₀ cfgs (dats m) 0 (V0 m) [hostOps1])

set_option backward.isDefEq.respectTransparency.types false in
/-- The launch: every execution ends, at the account above, with every semaphore at zero. -/
theorem run_quiet : θ_run defs (onTc (τ := τ) (main (F := F))) (s₀ m ρ) (fun r => post m r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The run without the counters. -/
theorem run_main : θ_run defs (onTc (τ := τ) (main (F := F))) (s₀ m ρ) (post m) :=
  (θ_run defs _ _).mono (fun _ h => h.1) (run_quiet m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

end Cert.Proof.KernelIdeal

end
-- ==== Proof.KernelValue.lean ====
module

public import proofs.«01_k».proof.Proof.KernelFrame

/-! The kernel's result entry by entry: row `128 t + l` of the result is lane `l` of grid point `t`'s block, and the
blocks it is computed from are the rows `128 t + l` of the arguments. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

variable (m : (ℓ : Loc nD τ sig) → Buf (Elt F) ℓ) (ρ : Dev nD → PrngReg)

/-- The result: the region's output array, transposed. -/
def result (c : Dev nD) : Buf (Elt F) ((c : Thread nD τ).loc main_v4) :=
  transpose S2048x128 [1, 0] ((dats m 0 c).arrAt 4 cfg0.N : S128x2048.Idx → Elt F .f32) transposes_S128x2048_S2048x128_1_0

/-- The host's line after the region leaves the transpose in the result buffer. -/
theorem tail_result (c : Dev nD) :
    Pipeline.afterTail₀ cfgs (dats m) 0 (V0 m) [hostOps1] c main_v4 = result m c := by
  unfold Pipeline.afterTail₀
  have h : ∀ W : Valuation τ sig (Elt F), StableHlo.after (List.flatten [hostOps1]) W (Proc.devRef .tc main_v4)
      = (transpose S2048x128 [1, 0] (W (Proc.devRef .tc main_v3) : S128x2048.Idx → Elt F .f32) transposes_S128x2048_S2048x128_1_0) := by
    intro W
    simp only [hostOps1, List.flatten_cons, List.flatten_nil, List.append_nil, StableHlo.after_cons, StableHlo.after_nil]
    exact StableHlo.unary_result main_v3 main_v4 _ _ _ W
  rw [h]
  unfold result
  refine congrArg (fun v => transpose S2048x128 [1, 0] v transposes_S128x2048_S2048x128_1_0) ?_
  exact Pipeline.withArrays_arr spec0 launch0.win.arr_inj c (V0 m c) _ 4

/-- The run, with the result named. -/
theorem run_value : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v4 (Pipeline.mem_restRefs_of main_v4 (by decide) (by decide))).trans (tail_result m c), h.2 c⟩)
    (θ_run_and (run_main m ρ) (unchanged m ρ))

/-- Every window's block index at a grid point. -/
theorem index_at : ∀ t : Fin cfg0.N,
    (win0_0.index t 0 = t.val ∧ win0_0.index t 1 = 0 ∧ win0_0.index t 2 = 0)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val) :=
  (by decide +kernel : ∀ t : Fin grid0.N,
    (win0_0.index t 0 = t.val ∧ win0_0.index t 1 = 0 ∧ win0_0.index t 2 = 0)
    ∧ (win0_1.index t 0 = 0 ∧ win0_1.index t 1 = t.val) ∧ (win0_2.index t 0 = 0 ∧ win0_2.index t 1 = t.val)
    ∧ (win0_3.index t 0 = 0 ∧ win0_3.index t 1 = t.val) ∧ (win0_4.index t 0 = 0 ∧ win0_4.index t 1 = t.val))

/-- The batch row of lane `l` at grid point `t`. -/
def batch (t : Fin cfg0.N) (l : Fin 128) : Fin 2048 :=
  ⟨128 * t.val + l.val, by have h : t.val < 16 := t.isLt; have := l.isLt; omega⟩

/-- Distinct grid points write distinct blocks. -/
theorem disjoint_out : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h =>
    hne (Fin.ext ((index_at t).2.2.2.2.2.symm.trans ((congrFun h 1).trans (index_at t').2.2.2.2.2)))

/-- The result at row `128 t + l`. -/
theorem result_apply (c : Dev nD) (t : Fin cfg0.N) (l i : Fin 128) :
    result m c (ix2 (batch t l) i) = outBlock m c t (ix2 i l) := by
  unfold result
  refine (transpose_ix2_apply _ _ (batch t l) i).trans ?_
  have hf : (cfg0.win 4).flush t = true := flush0_4 t
  have h := congrFun ((dats m 0 c).read_blk_arrAt_eq_flushed 4 disjoint_out cfg0.N t t.isLt hf) (ix2 i l)
  rw [View.read_apply] at h
  have hfl : (dats m 0 c).flushed 4 t = outBlock m c t := by
    show (cfg0.win 4).cut (grid0.coords t) ((dats m 0 c).after 4 t) = _
    rw [after4]
    rfl
  rw [hfl] at h
  refine Eq.trans ?_ h
  show (dats m 0 c).arrAt 4 cfg0.N (ix2 i (batch t l)) = (dats m 0 c).arrAt 4 cfg0.N _
  congr 1
  funext a
  apply Fin.ext
  match a with
  | ⟨0, _⟩ => show i.val = win0_4.index t 0 * 128 + 1 * i.val; rw [(index_at t).2.2.2.2.1]; omega
  | ⟨1, _⟩ => show 128 * t.val + l.val = win0_4.index t 1 * 128 + 1 * l.val; rw [(index_at t).2.2.2.2.2]; omega

/-- The host's lines before the region, read at the three transposed arrays. -/
theorem V_x (c : Dev nD) : V m c main_v0
    = transpose S128x2048 [1, 0] (m ((c : Thread nD τ).loc main_arg0) : S2048x128.Idx → Elt F .f32) transposes_S2048x128_S128x2048_1_0 := by
  unfold V V0
  simp only [hostOps0, List.flatten_cons, List.flatten_nil, List.append_nil]
  after_results

/-- The right-hand sides, transposed. -/
theorem V_b (c : Dev nD) : V m c main_v1
    = transpose S128x2048 [1, 0] (m ((c : Thread nD τ).loc main_arg2) : S2048x128.Idx → Elt F .f32) transposes_S2048x128_S128x2048_1_0 := by
  unfold V V0
  simp only [hostOps0, List.flatten_cons, List.flatten_nil, List.append_nil]
  after_results

/-- The relaxation factors, transposed. -/
theorem V_om (c : Dev nD) : V m c main_v2
    = transpose S1x2048 [1, 0] (m ((c : Thread nD τ).loc main_arg3) : S2048x1.Idx → Elt F .f32) transposes_S2048x1_S1x2048_1_0 := by
  unfold V V0
  simp only [hostOps0, List.flatten_cons, List.flatten_nil, List.append_nil]
  after_results

/-- The matrix block's entries. -/
theorem blk_A (c : Dev nD) (t : Fin cfg0.N) (l j i : Fin 128) :
    (iblk m c 0 t : Vec F S128x128x128 .f32) (ix3 l j i) = m ((c : Thread nD τ).loc main_arg1) (ix3 (batch t l) j i) := by
  unfold iblk
  rw [View.read_apply]
  show V m c main_arg1 _ = _
  rw [V_main_arg1]
  congr 1
  funext a
  apply Fin.ext
  match a with
  | ⟨0, _⟩ => show win0_0.index t 0 * 128 + 1 * l.val = 128 * t.val + l.val; rw [(index_at t).1.1]; omega
  | ⟨1, _⟩ => show win0_0.index t 1 * 128 + 1 * j.val = j.val; rw [(index_at t).1.2.1]; omega
  | ⟨2, _⟩ => show win0_0.index t 2 * 128 + 1 * i.val = i.val; rw [(index_at t).1.2.2]; omega

/-- The start block's entries. -/
theorem blk_x (c : Dev nD) (t : Fin cfg0.N) (i l : Fin 128) :
    (iblk m c 1 t : Vec F S128x128 .f32) (ix2 i l) = m ((c : Thread nD τ).loc main_arg0) (ix2 (batch t l) i) := by
  unfold iblk
  rw [View.read_apply]
  show V m c main_v0 _ = _
  rw [V_x]
  refine Eq.trans (congrArg _ ?_) (transpose_ix2_apply _ _ i (batch t l))
  funext a
  apply Fin.ext
  match a with
  | ⟨0, _⟩ => show win0_1.index t 0 * 128 + 1 * i.val = i.val; rw [(index_at t).2.1.1]; omega
  | ⟨1, _⟩ => show win0_1.index t 1 * 128 + 1 * l.val = 128 * t.val + l.val; rw [(index_at t).2.1.2]; omega

/-- The right-hand sides' block's entries. -/
theorem blk_b (c : Dev nD) (t : Fin cfg0.N) (i l : Fin 128) :
    (iblk m c 2 t : Vec F S128x128 .f32) (ix2 i l) = m ((c : Thread nD τ).loc main_arg2) (ix2 (batch t l) i) := by
  unfold iblk
  rw [View.read_apply]
  show V m c main_v1 _ = _
  rw [V_b]
  refine Eq.trans (congrArg _ ?_) (transpose_ix2_apply _ _ i (batch t l))
  funext a
  apply Fin.ext
  match a with
  | ⟨0, _⟩ => show win0_2.index t 0 * 128 + 1 * i.val = i.val; rw [(index_at t).2.2.1.1]; omega
  | ⟨1, _⟩ => show win0_2.index t 1 * 128 + 1 * l.val = 128 * t.val + l.val; rw [(index_at t).2.2.1.2]; omega

/-- The relaxation factors' block's entries. -/
theorem blk_om (c : Dev nD) (t : Fin cfg0.N) (l : Fin 128) :
    (iblk m c 3 t : Vec F S1x128 .f32) (ix2 (0 : Fin 1) l) = m ((c : Thread nD τ).loc main_arg3) (ix2 (batch t l) (0 : Fin 1)) := by
  unfold iblk
  rw [View.read_apply]
  show V m c main_v2 _ = _
  rw [V_om]
  refine Eq.trans (congrArg _ ?_) (transpose_ix2_apply _ _ (0 : Fin 1) (batch t l))
  funext a
  apply Fin.ext
  match a with
  | ⟨0, _⟩ => show win0_3.index t 0 * 1 + 1 * 0 = 0; rw [(index_at t).2.2.2.1.1]
  | ⟨1, _⟩ => show win0_3.index t 1 * 128 + 1 * l.val = 128 * t.val + l.val; rw [(index_at t).2.2.2.1.2]; omega

end Cert.Proof.KernelIdeal

end
-- ==== Proof.Sor.lean ====
module

public import Idealize.ShloMosaic.PureOps.Ideal.Laws
public import Mathlib.Tactic.Ring
public import Mathlib.Tactic.Positivity

/-! One batch row of the algorithm over the real numbers: a Newton step whose linear system is relaxed by one forward
substitution, once as the kernel orders it (the right-hand side updated column by column, the residual carried along)
and once as the reference does (a row at a time, the residual recomputed). -/

@[expose] public section

noncomputable section

namespace Cert.Proof.Sor

variable (A : Fin 128 → Fin 128 → ℝ) (b : Fin 128 → ℝ) (om : ℝ) (x : Fin 128 → ℝ)

/-- The residual `A x + x³ − b`. -/
def resid (i : Fin 128) : ℝ := (∑ k, A i k * x k) + x i * x i * x i - b i

/-- The diagonal of the Jacobian. -/
def diag (i : Fin 128) : ℝ := A i i + 3 * (x i * x i)

/-- The right-hand side after `n` columns have been substituted, scaled inverse diagonal `s`. -/
def rhs (s f : Fin 128 → ℝ) : Nat → Fin 128 → ℝ
  | 0 => f
  | n + 1 => fun j => if h : n < 128 then rhs s f n j - rhs s f n ⟨n, h⟩ * s ⟨n, h⟩ * A j ⟨n, h⟩ else f j

/-- The update of unknown `i`. -/
def upd (s f : Fin 128 → ℝ) (i : Fin 128) : ℝ := rhs A s f i.val i * s i

/-- One Newton step. -/
def next (i : Fin 128) : ℝ := x i - upd A (fun k => om / diag A x k) (resid A b x) i

/-- `n` Newton steps. -/
def iter : Nat → Fin 128 → ℝ
  | 0 => x
  | n + 1 => next A b om (iter n)

/-- A sum over the first `n + 1` indices. -/
theorem sum_lt_succ (g : Fin 128 → ℝ) (n : Nat) (h : n < 128) :
    (∑ k : Fin 128, if k.val < n + 1 then g k else 0) = (∑ k : Fin 128, if k.val < n then g k else 0) + g ⟨n, h⟩ := by
  have e : ∀ k : Fin 128, (if k.val < n + 1 then g k else 0)
      = (if k.val < n then g k else 0) + (if k = ⟨n, h⟩ then g ⟨n, h⟩ else 0) := by
    intro k
    by_cases h1 : k.val < n
    · rw [if_pos (by omega), if_pos h1, if_neg (fun e => by rw [e] at h1; exact absurd h1 (lt_irrefl _)), add_zero]
    · by_cases h2 : k = ⟨n, h⟩
      · subst h2; rw [if_pos (Nat.lt_succ_self _), if_neg h1, if_pos rfl, zero_add]
      · have : k.val ≠ n := fun e => h2 (Fin.ext e)
        rw [if_neg (by omega), if_neg h1, if_neg h2, add_zero]
  rw [Finset.sum_congr rfl fun k _ => e k, Finset.sum_add_distrib, Finset.sum_ite_eq' Finset.univ (⟨n, h⟩ : Fin 128),
    if_pos (Finset.mem_univ _)]

/-- The right-hand side after `n` columns is the start less those columns times their updates. -/
theorem rhs_eq (s f : Fin 128 → ℝ) (n : Nat) (hn : n ≤ 128) (j : Fin 128) :
    rhs A s f n j = f j - ∑ k : Fin 128, if k.val < n then upd A s f k * A j k else 0 := by
  induction n with
  | zero => simp [rhs]
  | succ n ih =>
    have h : n < 128 := hn
    rw [sum_lt_succ _ n h, rhs]; dsimp only; rw [dif_pos h, ih (by omega)]
    unfold upd
    ring

/-- All the columns. -/
theorem rhs_all (s f : Fin 128 → ℝ) (j : Fin 128) : rhs A s f 128 j = f j - ∑ k : Fin 128, upd A s f k * A j k := by
  rw [rhs_eq A s f 128 le_rfl j]
  refine congrArg (f j - ·) (Finset.sum_congr rfl fun k _ => if_pos k.isLt)

/-- The residual the kernel carries along is the residual of the new iterate. -/
theorem resid_next (j : Fin 128) :
    rhs A (fun k => om / diag A x k) (resid A b x) 128 j
        + (next A b om x j * next A b om x j * next A b om x j - x j * x j * x j)
      = resid A b (next A b om x) j := by
  rw [rhs_all]
  have e : ∑ k, A j k * next A b om x k
      = (∑ k, A j k * x k) - ∑ k, upd A (fun k => om / diag A x k) (resid A b x) k * A j k := by
    rw [← Finset.sum_sub_distrib]
    refine Finset.sum_congr rfl fun k _ => ?_
    unfold next
    ring
  conv_rhs => unfold resid
  rw [e]
  conv_lhs => rw [show resid A b x j = (∑ k, A j k * x k) + x j * x j * x j - b j from rfl]
  ring

/-- One row of the reference's forward substitution for `(D + ω L) y = f`. -/
def row (f : Fin 128 → ℝ) (n : Nat) (y : Fin 128 → ℝ) (i : Fin 128) : ℝ :=
  if i.val = n then (f i - ∑ k : Fin 128, om * (if k.val < i.val then A i k else 0) * y k) / diag A x i else y i

/-- The first `n` rows. -/
def subst (f : Fin 128 → ℝ) : Nat → Fin 128 → ℝ
  | 0 => fun _ => 0
  | n + 1 => row A om x f n (subst f n)

/-- Each row once substituted, times the relaxation factor, is the kernel's update. -/
theorem subst_eq (f : Fin 128 → ℝ) (n : Nat) (hn : n ≤ 128) (i : Fin 128) (hi : i.val < n) :
    om * subst A om x f n i = upd A (fun k => om / diag A x k) f i := by
  induction n generalizing i with
  | zero => exact absurd hi (Nat.not_lt_zero _)
  | succ n ih =>
    rw [subst, row]
    by_cases e : i.val = n
    · rw [if_pos e]
      have hs : ∑ k : Fin 128, om * (if k.val < i.val then A i k else 0) * subst A om x f n k
          = ∑ k : Fin 128, if k.val < n then upd A (fun k => om / diag A x k) f k * A i k else 0 := by
        refine Finset.sum_congr rfl fun k _ => ?_
        rw [e]
        by_cases hk : k.val < n
        · rw [if_pos hk, if_pos hk, ← ih (by omega) k hk]; ring
        · rw [if_neg hk, if_neg hk]; ring
      rw [hs]
      unfold upd
      rw [rhs_eq A _ f i.val (le_of_lt i.isLt) i, e]
      unfold upd
      ring
    · rw [if_neg e, ih (by omega) i (by omega)]

/-- The reference's new iterate is the kernel's. -/
theorem next_eq (i : Fin 128) : x i - om * subst A om x (resid A b x) 128 i = next A b om x i := by
  rw [subst_eq A om x _ 128 le_rfl i i.isLt]; rfl

/-- The residual summed over the first `n` columns, as the kernel starts. -/
def start : Nat → Fin 128 → ℝ
  | 0 => fun j => x j * x j * x j - b j
  | n + 1 => fun j => if h : n < 128 then start n j + A j ⟨n, h⟩ * x ⟨n, h⟩ else start n j

/-- That start in closed form. -/
theorem start_eq (n : Nat) (hn : n ≤ 128) (j : Fin 128) :
    start A b x n j = x j * x j * x j - b j + ∑ k : Fin 128, if k.val < n then A j k * x k else 0 := by
  induction n with
  | zero => simp [start]
  | succ n ih =>
    have h : n < 128 := hn
    rw [sum_lt_succ _ n h, start]; dsimp only; rw [dif_pos h, ih (by omega)]
    ring

/-- After all the columns it is the residual. -/
theorem start_all (j : Fin 128) : start A b x 128 j = resid A b x j := by
  rw [start_eq A b x 128 le_rfl j, Finset.sum_congr rfl fun k _ => if_pos k.isLt]
  unfold resid
  ring

end Cert.Proof.Sor

end
-- ==== Proof.KernelReal.lean ====
module

public import proofs.«01_k».proof.Proof.KernelValue
public import proofs.«01_k».proof.Proof.Sor
public import Mathlib.Tactic.Linarith

/-! The kernel's block over the real numbers: where a grid point's inputs are finite and the matrices' diagonals
positive, lane `l` of its output is the sixteenth real iterate of that lane's system. -/

@[expose] public section

set_option maxRecDepth 16384

noncomputable section

namespace Cert.Proof.KernelIdeal

open Cert.KernelIdeal Cert.KernelIdeal.Gen
open Idealize.ShloMosaic Idealize.ShloMosaic.ValueIdx

/-- Row `i` of a block at a lane. -/
theorem rowOf_apply {F : FTy → Type} [FloatOps F] (v : FVec F S128x128 .f32) (i l : Fin 128) :
    rowOf v i (ix1 l) = v (ix2 i l) := by
  unfold rowOf
  refine (shapeCast_1a_a_apply _ _ l).trans ?_
  exact extractStridedSlice_apply _ _ _ _ (ix2 i l) fun a => match a with
    | ⟨0, _⟩ => rfl
    | ⟨1, _⟩ => (Nat.zero_add _).symm

/-- A lane vector repeated down the rows, at an entry. -/
theorem spread_apply {F : FTy → Type} [FloatOps F] (r : FVec F S128 .f32) (j l : Fin 128) :
    spread r (ix2 j l) = r (ix1 l) := by
  unfold spread
  exact (broadcastTo_1b_ab_apply _ _ j l).trans (shapeCast_a_1a_apply _ _ (0 : Fin 1) l)

/-- A block holds real numbers: entry `(i, l)` is `w l i`. -/
def Holds (v : FVec Ideal S128x128 .f32) (w : Fin 128 → Fin 128 → ℝ) : Prop :=
  ∀ l i : Fin 128, v (ix2 i l) = ((w l i : ℝ) : EReal)

/-- The constant three. -/
theorem three : Ideal.ofBits .f32 0x40400000#32 = ((3 : ℝ) : EReal) := by
  simp [Ideal.ofBits, Ideal.ieee, -EReal.coe_mul]; norm_num

/-- A quotient of reals, the denominator not zero. -/
theorem div_real (a b : ℝ) (h : b ≠ 0) : Ideal.div (a : EReal) (b : EReal) = ((a / b : ℝ) : EReal) := by
  rw [Ideal.div_coe h, ← EReal.coe_mul, mul_one_div]

variable {T : Fin 128 → FVec Ideal S128x128 .f32} {om : FVec Ideal S128 .f32} {ad x s f b : FVec Ideal S128x128 .f32}
  {A : Fin 128 → Fin 128 → Fin 128 → ℝ} {w : Fin 128 → ℝ} {xr sr fr br : Fin 128 → Fin 128 → ℝ}

/-- The update of one row. -/
theorem stepRow_real (hs : Holds s sr) (hf : Holds f fr) (i l : Fin 128) :
    stepRow s f i (ix1 l) = ((fr l i * sr l i : ℝ) : EReal) := by
  unfold stepRow
  rw [mulf_apply, rowOf_apply, rowOf_apply, hs l i, hf l i, EReal.coe_mul]

/-- The running right-hand side. -/
theorem rhsAt_real (hT : ∀ i, Holds (T i) fun l j => A l j i) (hs : Holds s sr) (hf : Holds f fr) (n : Nat) :
    Holds (rhsAt T s f n) fun l => Sor.rhs (A l) (sr l) (fr l) n := by
  induction n with
  | zero => exact hf
  | succ n ih =>
    intro l j
    beta_reduce
    rw [rhsAt, Sor.rhs]
    dsimp only
    by_cases h : n < 128
    · have e := stepRow_real hs ih ⟨n, h⟩ l
      rw [dif_pos h, dif_pos h, subf_apply, mulf_apply, spread_apply, e, ih l j, hT _ l j, EReal.coe_sub, ← EReal.coe_mul]
    · rw [dif_neg h, dif_neg h, hf l j]

/-- The scaled inverse diagonal. -/
theorem sinv_real (hom : ∀ l, om (ix1 l) = ((w l : ℝ) : EReal)) (had : Holds ad fun l i => A l i i) (hx : Holds x xr)
    (hA : ∀ l i, 0 < A l i i) : Holds (sinv om ad x) fun l k => w l / Sor.diag (A l) (xr l) k := by
  intro l i
  unfold sinv
  rw [divf_apply, spread_apply, addf_apply, mulf_apply, mulf_apply, broadcast_apply, hom l, had l i, hx l i]
  have h3 : (Scalar.ofBits .f32 0x40400000#32 : Ideal .f32) = ((3 : ℝ) : EReal) := three
  rw [h3, ← EReal.coe_mul, ← EReal.coe_mul, ← EReal.coe_add]
  have hd : A l i i + 3 * xr l i * xr l i = Sor.diag (A l) (xr l) i := by unfold Sor.diag; ring
  rw [hd]
  refine div_real _ _ (ne_of_gt ?_)
  unfold Sor.diag
  have := hA l i
  nlinarith [mul_self_nonneg (xr l i)]

/-- The new iterate. -/
theorem sweep_real (hT : ∀ i, Holds (T i) fun l j => A l j i) (hs : Holds s sr) (hf : Holds f fr) (hx : Holds x xr) :
    Holds (sweep T s f x) fun l i => xr l i - Sor.upd (A l) (sr l) (fr l) i := by
  intro l i
  show newRow T s f x i (ix2 (0 : Fin 1) l) = _
  unfold newRow
  refine (shapeCast_a_1a_apply _ _ (0 : Fin 1) l).trans ?_
  unfold sweepRow
  rw [subf_apply, rowOf_apply, hx l i, stepRow_real hs (rhsAt_real hT hs hf i.val), EReal.coe_sub]
  rfl

/-- The residual the kernel starts from. -/
theorem resAt_real (hT : ∀ i, Holds (T i) fun l j => A l j i) (hx : Holds x xr) (hb : Holds b br) (n : Nat) :
    Holds (resAt T x b n) fun l => Sor.start (A l) (br l) (xr l) n := by
  induction n with
  | zero =>
    intro l j
    beta_reduce
    rw [resAt, Sor.start, subf_apply, mulf_apply, mulf_apply, hx l j, hb l j, EReal.coe_sub, EReal.coe_mul, EReal.coe_mul]
  | succ n ih =>
    intro l j
    beta_reduce
    rw [resAt, Sor.start]
    dsimp only
    by_cases h : n < 128
    · rw [dif_pos h, dif_pos h, addf_apply, mulf_apply, spread_apply, rowOf_apply, ih l j, hT _ l j, hx l _,
        EReal.coe_add, EReal.coe_mul]
    · rw [dif_neg h, dif_neg h, ih l j]

/-- One Newton step. -/
theorem newtonStep_real (hT : ∀ i, Holds (T i) fun l j => A l j i) (hom : ∀ l, om (ix1 l) = ((w l : ℝ) : EReal))
    (had : Holds ad fun l i => A l i i) (hA : ∀ l i, 0 < A l i i) (p : FVec Ideal S128x128 .f32 × FVec Ideal S128x128 .f32)
    (hx : Holds p.1 xr) (hf : Holds p.2 fun l => Sor.resid (A l) (br l) (xr l)) :
    Holds (newtonStep T om ad p).1 (fun l => Sor.next (A l) (br l) (w l) (xr l))
    ∧ Holds (newtonStep T om ad p).2 (fun l => Sor.resid (A l) (br l) (Sor.next (A l) (br l) (w l) (xr l))) := by
  have hs := sinv_real hom had hx hA
  have h1 : Holds (newtonStep T om ad p).1 (fun l => Sor.next (A l) (br l) (w l) (xr l)) := sweep_real hT hs hf hx
  refine ⟨h1, fun l j => ?_⟩
  beta_reduce
  rw [← Sor.resid_next, EReal.coe_add, EReal.coe_sub, EReal.coe_mul, EReal.coe_mul, EReal.coe_mul, EReal.coe_mul,
    ← hx l j, show ((Sor.next (A l) (br l) (w l) (xr l) j : ℝ) : EReal) = _ from (h1 l j).symm,
    show ((Sor.rhs (A l) (fun k => w l / Sor.diag (A l) (xr l) k) (Sor.resid (A l) (br l) (xr l)) 128 j : ℝ) : EReal) = _ from
      (rhsAt_real hT hs hf 128 l j).symm]
  rfl

/-- All the steps. -/
theorem newtonIter_real (hT : ∀ i, Holds (T i) fun l j => A l j i) (hom : ∀ l, om (ix1 l) = ((w l : ℝ) : EReal))
    (had : Holds ad fun l i => A l i i) (hA : ∀ l i, 0 < A l i i) (p : FVec Ideal S128x128 .f32 × FVec Ideal S128x128 .f32)
    (hx : Holds p.1 xr) (hf : Holds p.2 fun l => Sor.resid (A l) (br l) (xr l)) (n : Nat) :
    Holds (newtonIter T om ad p n).1 (fun l => Sor.iter (A l) (br l) (w l) (xr l) n)
    ∧ Holds (newtonIter T om ad p n).2 (fun l => Sor.resid (A l) (br l) (Sor.iter (A l) (br l) (w l) (xr l) n)) := by
  induction n with
  | zero => exact ⟨hx, hf⟩
  | succ n ih => exact newtonStep_real hT hom had hA _ ih.1 ih.2

/-- What a grid point leaves in its output window. -/
theorem blockOut_real (x0 : Vec Ideal S128x128x128 .f32) (x1 x2 : Vec Ideal S128x128 .f32) (x3 : Vec Ideal S1x128 .f32)
    (h0 : ∀ l j i : Fin 128, x0 (ix3 l j i) = ((A l j i : ℝ) : EReal)) (h1 : Holds x1 xr) (h2 : Holds x2 br)
    (h3 : ∀ l : Fin 128, x3 (ix2 (0 : Fin 1) l) = ((w l : ℝ) : EReal)) (hA : ∀ l i, 0 < A l i i) :
    Holds (blockOut x0 x1 x2 x3) fun l => Sor.iter (A l) (br l) (w l) (xr l) 16 := by
  have hT : ∀ i, Holds (column x0 i) fun l j => A l j i := fun i l j => h0 l j i
  have hr : Holds (resAt (column x0) x1 x2 128) fun l => Sor.resid (A l) (br l) (xr l) := by
    intro l j
    rw [resAt_real hT h1 h2 128 l j]
    beta_reduce
    rw [Sor.start_all]
  exact (newtonIter_real hT (fun l => h3 l) (fun l i => h0 l i i) hA (x1, resAt (column x0) x1 x2 128) h1 hr 16).1

end Cert.Proof.KernelIdeal

end
-- ==== Proof.RefBody.lean ====
module

public import proofs.«01_k».proof.Proof.Gen.ReferenceIdeal.Frame
public import proofs.«01_k».proof.Proof.Gen.ReferenceIdeal.Loops
public import Idealize.ShloMosaic.Lib.WritesUnit
public import Idealize.ShloMosaic.Lib.ValueIdx

/-! The reference's body, run on any staging memrefs: what it leaves in the output window. -/

@[expose] public section

set_option maxRecDepth 65536
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The substitution loop of one Newton step: all 128 rows, one trip each. -/
def solve (A : Vec F S2048x128x128 .f32) (om : Vec F S2048x1 .f32) (x r : FVec F S2048x128 .f32) : FVec F S2048x128 .f32 :=
  Scf.fold (n := k0_t2_loop.trips) (fun k y => k0_pay3 A om x r k y) k0_pay2

/-- One Newton step of the reference: the new iterate and its residual. -/
def refStep (A : Vec F S2048x128x128 .f32) (b : Vec F S2048x128 .f32) (om : Vec F S2048x1 .f32)
    (p : FVec F S2048x128 .f32 × FVec F S2048x128 .f32) : FVec F S2048x128 .f32 × FVec F S2048x128 .f32 :=
  (k0_pay4 om p.1 (solve A om p.1 p.2), k0_pay5 A b om p.1 (solve A om p.1 p.2))

/-- The reference's state before Newton step `n`. -/
def refIter (A : Vec F S2048x128x128 .f32) (b : Vec F S2048x128 .f32) (om : Vec F S2048x1 .f32)
    (init : FVec F S2048x128 .f32 × FVec F S2048x128 .f32) : Nat → FVec F S2048x128 .f32 × FVec F S2048x128 .f32
  | 0 => init
  | n + 1 => refStep A b om (refIter A b om init n)

/-- The Newton loop's invariant: before trip `k` the carried pair is iterate `k`. -/
@[sl_loop, instance_reducible] def loopInv_k0_t1 (c : Dev nD) (arg0 : Memref sig .tc .vmem S2048x128 .f32) (harg0 : arg0.IsWhole) (arg1 : Memref sig .tc .vmem S2048x128x128 .f32) (harg1 : arg1.IsWhole) (arg2 : Memref sig .tc .vmem S2048x128 .f32) (harg2 : arg2.IsWhole) (arg3 : Memref sig .tc .vmem S2048x1 .f32) (harg3 : arg3.IsWhole) (arg4 : Memref sig .tc .vmem S2048x128 .f32) (harg4 : arg4.IsWhole) (v0 : Vec F S2048x128x128 .f32) (v1 : Vec F S2048x128 .f32) (v2 : Vec F S2048x1 .f32) (init : Vec F S2048x128 .f32 × FVec F S2048x128 .f32) :
    LoopInvTy_k0_t1 (F := F) Unit ℕ (UR sig nD τ) ℕ Variants.none c none Set.univ arg0 harg0 arg1 harg1 arg2 harg2 arg3 harg3 arg4 harg4 v0 v1 v2 init where
  inv := fun k acc => iprop(⌜acc = refIter v0 v1 v2 init k⌝)
  step := fun k acc => by
    unfold k0_t1_body
    iintro %h
    subst h
    sl_exec
    sl_step
    ipureintro
    rfl

/-- The reference's value, of its four arguments. -/
def refOut (x : Vec F S2048x128 .f32) (A : Vec F S2048x128x128 .f32) (b : Vec F S2048x128 .f32) (om : Vec F S2048x1 .f32) :
    FVec F S2048x128 .f32 :=
  (refIter A b om (x, k0_pay1 A b x) 16).1

/-- Sixteen Newton steps. -/
theorem trips_eq : Scf.trips k0_t1_loop.lb k0_t1_loop.ub k0_t1_loop.st = 16 := by decide

/-- A store of the whole array, read back. -/
theorem read_whole_store (v : View sig .tc .vmem S2048x128 .f32) (f : v.ty.Contents (Elt F)) (w : FVec F S2048x128 .f32)
    (L : List (View.Piece (Elt F) S2048x128 .f32)) :
    v.read (Elt F) (v.writes (Elt F) f
      (⟨Rect.unit (s := S2048x128) ![0, 0] S2048x128.size inb_S2048x128_S2048x128_0_0, w⟩ :: L)) = w := by
  funext y
  exact View.read_writes_cons_unit_of_mem (s := S2048x128) v f (size := S2048x128.size) inb_S2048x128_S2048x128_0_0 w L y y rfl
    fun a => by fin_cases a <;> simp

/-- Loads of whole staging buffers read their contents. -/
theorem load2 (mr : Memref sig .tc .vmem S2048x128 .f32) (hm : mr.IsWhole) (x : Vec F S2048x128 .f32) :
    mr.view.readAt (Elt F) (Rect.unit (s := S2048x128) ![0, 0] S2048x128.size inb_S2048x128_S2048x128_0_0).toLoadRect (hm.unread x) = x := by
  funext y
  refine (congrFun (hm.read_unread x) _).trans (congrArg x ?_)
  funext a
  refine Fin.ext ?_
  rw [LoadRect.idx_apply]
  match a with
  | ⟨0, _⟩ => show 0 + 1 * (y 0).val = (y 0).val; omega
  | ⟨1, _⟩ => show 0 + 1 * (y 1).val = (y 1).val; omega

/-- Loading the whole of a rank-three buffer reads its contents. -/
theorem load3 (mr : Memref sig .tc .vmem S2048x128x128 .f32) (hm : mr.IsWhole) (x : Vec F S2048x128x128 .f32) :
    mr.view.readAt (Elt F) (Rect.unit (s := S2048x128x128) ![0, 0, 0] S2048x128x128.size inb_S2048x128x128_S2048x128x128_0_0_0).toLoadRect (hm.unread x) = x := by
  funext y
  refine (congrFun (hm.read_unread x) _).trans (congrArg x ?_)
  funext a
  refine Fin.ext ?_
  rw [LoadRect.idx_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The same of a column. -/
theorem load1 (mr : Memref sig .tc .vmem S2048x1 .f32) (hm : mr.IsWhole) (x : Vec F S2048x1 .f32) :
    mr.view.readAt (Elt F) (Rect.unit (s := S2048x1) ![0, 0] S2048x1.size inb_S2048x1_S2048x1_0_0).toLoadRect (hm.unread x) = x := by
  funext y
  refine (congrFun (hm.read_unread x) _).trans (congrArg x ?_)
  funext a
  refine Fin.ext ?_
  rw [LoadRect.idx_apply]
  match a with
  | ⟨0, _⟩ => show 0 + 1 * (y 0).val = (y 0).val; omega
  | ⟨1, _⟩ => show 0 + 1 * (y 1).val = (y 1).val; omega

/-- The body's triple: on whole staging buffers holding the arguments it leaves `refOut` in the output window. -/
theorem body_run (c : Dev nD) (arg0 : Memref sig .tc .vmem S2048x128 .f32) (harg0 : arg0.IsWhole) (arg1 : Memref sig .tc .vmem S2048x128x128 .f32) (harg1 : arg1.IsWhole) (arg2 : Memref sig .tc .vmem S2048x128 .f32) (harg2 : arg2.IsWhole) (arg3 : Memref sig .tc .vmem S2048x1 .f32) (harg3 : arg3.IsWhole) (arg4 : Memref sig .tc .vmem S2048x128 .f32) (harg4 : arg4.IsWhole)
    (x0 : Vec F S2048x128 .f32) (x1 : Vec F S2048x128x128 .f32) (x2 : Vec F S2048x128 .f32) (x3 : Vec F S2048x1 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (refOut x0 x1 x2 x3)) -∗ K ⟨⟩))
      ⊢ wp frame (wpE (defs₀ (F := F)) Variants.none c none) Set.univ (cc0__reference_body arg0 harg0 arg1 harg1 arg2 harg2 arg3 harg3 arg4 harg4) K := by
  simp only [cc0__reference_body_eq_skeleton]; unfold cc0__reference_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0; obtain rfl := harg1.eq_unread hf1; obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  rw [read_whole_store]
  rw [load3, load2, load2, load1, trips_eq]
  rfl

end Cert.Proof.ReferenceIdeal

end
-- ==== Proof.RefReal.lean ====
module

public import proofs.«01_k».proof.Proof.RefBody
public import proofs.«01_k».proof.Proof.Sor
public import Idealize.ShloMosaic.Lib.Pipeline.Value
public import Idealize.ShloMosaic.Lib.StableHlo.Predicate
public import Mathlib.Tactic.Linarith

/-! The reference over the real numbers: where its arguments are finite and the matrices' diagonals positive, row `B` of
its value is the sixteenth real iterate of that row's system. -/

@[expose] public section

set_option maxRecDepth 16384

noncomputable section

namespace Cert.Proof.ReferenceIdeal

open Cert.ReferenceIdeal Cert.ReferenceIdeal.Gen
open Idealize.ShloMosaic Idealize.ShloMosaic.ValueIdx

/-! Folds and sums -/

/-- What holds before the first trip and is kept by each holds after the last. -/
theorem fold_holds {β : Type} (P : Nat → β → Prop) : ∀ (n : Nat) (g : Fin n → β → β) (init : β), P 0 init →
    (∀ (k : Fin n) (acc : β), P k.val acc → P (k.val + 1) (g k acc)) → P n (Scf.fold g init) := by
  intro n g init h0 hs
  rw [Scf.fold_eq]
  induction n with
  | zero => exact h0
  | succ n ih =>
    rw [List.finRange_succ_last, List.foldl_append, List.foldl_map]
    exact hs (Fin.last n) _ (ih (fun k => g k.castSucc) fun k acc h => hs k.castSucc acc h)

/-- A finite sum of reals, among the extended reals. -/
theorem sum_real {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The constant three. -/
theorem three : (Scalar.ofBits .f32 0x40400000#32 : Ideal .f32) = ((3 : ℝ) : EReal) := by
  show Ideal.ofBits .f32 0x40400000#32 = _
  simp [Ideal.ofBits, Ideal.ieee, -EReal.coe_mul]; norm_num

/-- The constant zero. -/
theorem zero : (Scalar.ofBits .f32 0x00000000#32 : Ideal .f32) = ((0 : ℝ) : EReal) := by
  show Ideal.ofBits .f32 0x00000000#32 = _
  simp [Ideal.ofBits, Ideal.ieee]

/-! The reference's shapes -/

/-- The sum along the matrices' last axis. -/
def total (src : FVec Ideal S2048x128x128 .f32) : FVec Ideal S2048x128 .f32 :=
  multiReduction .add [2] S2048x128 src 0x00000000#32 reduces_S2048x128x128_S2048x128 (.inl rfl) rfl

/-- Rows laid along the matrices' last axis. -/
def across (v : FVec Ideal S2048x128 .f32) : FVec Ideal S2048x128x128 .f32 :=
  broadcastTo S2048x128x128 (shapeCast S2048x1x128 v shapeCasts_S2048x128_S2048x1x128) broadcasts_S2048x1x128_S2048x128x128

/-- Relaxation factors over whole matrices. -/
def factors (v : FVec Ideal S2048x1 .f32) : FVec Ideal S2048x128x128 .f32 :=
  broadcastTo S2048x128x128 (shapeCast S2048x1x1 v shapeCasts_S2048x1_S2048x1x1) broadcasts_S2048x1x1_S2048x128x128

/-- The row number of every matrix entry. -/
def rowNo : IVec S2048x128x128 32 := iota .tc S2048x128x128 32 [1] iota_S2048x128x128_d1_w32
/-- The column number of every matrix entry. -/
def colNo : IVec S2048x128x128 32 := iota .tc S2048x128x128 32 [2] iota_S2048x128x128_d2_w32

/-- The matrices where the comparison of row and column number holds, zero elsewhere. -/
def part (p : CmpIPredicate) (v : FVec Ideal S2048x128x128 .f32) : FVec Ideal S2048x128x128 .f32 :=
  select (cmpi p rowNo colNo) v (broadcast S2048x128x128 (Scalar.ofBits .f32 0x00000000#32))

/-- The sum along the last axis, at a row and an unknown. -/
theorem total_apply (src : FVec Ideal S2048x128x128 .f32) (B : Fin 2048) (i : Fin 128) :
    total src (ix2 B i) = ∑ k : Fin 128, src (ix3 B i k) := by
  refine (Ideal.multiReduction_add_single src _ _ _ _ (ix2 B i)).trans (Finset.sum_congr rfl fun k _ => congrArg src ?_)
  funext a
  match a with
  | ⟨0, _⟩ => rfl
  | ⟨1, _⟩ => rfl
  | ⟨2, _⟩ => rfl

/-- A row laid along the last axis, at an entry. -/
theorem across_apply (v : FVec Ideal S2048x128 .f32) (B : Fin 2048) (i k : Fin 128) :
    across v (ix3 B i k) = v (ix2 B k) := by
  refine (broadcastTo_apply _ _ (ix3 B i k) (ix3 B (0 : Fin 1) k) fun a => ?_).trans
    (shapeCast_apply v _ (ix3 B (0 : Fin 1) k) (ix2 B k) ?_)
  · match a with
    | ⟨0, _⟩ => rfl
    | ⟨1, _⟩ => rfl
    | ⟨2, _⟩ => rfl
  · rw [Shape.rowMajor_val_two, Shape.rowMajor_val_three]
    simp

/-- A relaxation factor at every entry of its matrix. -/
theorem factors_apply (v : FVec Ideal S2048x1 .f32) (B : Fin 2048) (i k : Fin 128) :
    factors v (ix3 B i k) = v (ix2 B (0 : Fin 1)) := by
  refine (broadcastTo_apply _ _ (ix3 B i k) (ix3 B (0 : Fin 1) (0 : Fin 1)) fun a => ?_).trans
    (shapeCast_apply v _ (ix3 B (0 : Fin 1) (0 : Fin 1)) (ix2 B (0 : Fin 1)) ?_)
  · match a with
    | ⟨0, _⟩ => rfl
    | ⟨1, _⟩ => rfl
    | ⟨2, _⟩ => rfl
  · rw [Shape.rowMajor_val_two, Shape.rowMajor_val_three]
    simp

/-- An entry's row number. -/
theorem rowNo_apply (B : Fin 2048) (i k : Fin 128) : rowNo (ix3 B i k) = BitVec.ofNat 32 i.val := by
  show BitVec.ofNat 32 (0 * 128 + i.val) = _
  rw [Nat.zero_mul, Nat.zero_add]

/-- An entry's column number. -/
theorem colNo_apply (B : Fin 2048) (i k : Fin 128) : colNo (ix3 B i k) = BitVec.ofNat 32 k.val := by
  show BitVec.ofNat 32 (0 * 128 + k.val) = _
  rw [Nat.zero_mul, Nat.zero_add]

/-- A relaxation factor at every unknown of its row. -/
theorem factor2_apply (v : FVec Ideal S2048x1 .f32) (h : S2048x1.Broadcasts S2048x128) (B : Fin 2048) (i : Fin 128) :
    broadcastTo S2048x128 v h (ix2 B i) = v (ix2 B (0 : Fin 1)) :=
  broadcastTo_apply v h (ix2 B i) (ix2 B (0 : Fin 1)) fun a => match a with
    | ⟨0, _⟩ => rfl
    | ⟨1, _⟩ => rfl

/-- Small numbers are equal as words just when they are equal. -/
theorem word_eq (a b : Nat) (ha : a < 2 ^ 31) (hb : b < 2 ^ 31) :
    IntOp.cmpi .eq (BitVec.ofNat 32 a) (BitVec.ofNat 32 b) = 1#1 ↔ a = b := by
  rw [StableHlo.Predicate.cmpi_eq_iff]
  constructor
  · intro h
    have := congrArg BitVec.toNat h
    simp only [BitVec.toNat_ofNat] at this
    omega
  · rintro rfl; rfl

/-- And compare as words as they do as numbers. -/
theorem word_gt (a b : Nat) (ha : a < 2 ^ 31) (hb : b < 2 ^ 31) :
    IntOp.cmpi .sgt (BitVec.ofNat 32 a) (BitVec.ofNat 32 b) = 1#1 ↔ b < a := by
  have ea : (BitVec.ofNat 32 a).toNat = a := by simp only [BitVec.toNat_ofNat]; omega
  have eb : (BitVec.ofNat 32 b).toNat = b := by simp only [BitVec.toNat_ofNat]; omega
  rw [StableHlo.Predicate.sgt_iff_toNat (by omega) (by omega), ea, eb]

/-- A choice between two vectors at an entry, by a comparison decided there. -/
theorem choose_apply {s : Shape} (c : IVec s 1) (a b : FVec Ideal s .f32) (j : s.Idx) (p : Prop) [Decidable p] (h : c j = 1#1 ↔ p) :
    select c a b j = if p then a j else b j := by
  show Scalar.select (c j) (a j) (b j) = _
  by_cases hp : p
  · rw [if_pos hp, h.mpr hp]; rfl
  · rw [if_neg hp]
    have : c j = 0#1 := (BitVec.eq_zero_or_eq_one (c j)).resolve_right fun e => hp (h.mp e)
    rw [this]; rfl

variable {A : FVec Ideal S2048x128x128 .f32} {om : FVec Ideal S2048x1 .f32} {x b r y : FVec Ideal S2048x128 .f32}
variable {Ar : Fin 2048 → Fin 128 → Fin 128 → ℝ} {w : Fin 2048 → ℝ} {xr br rr yr : Fin 2048 → Fin 128 → ℝ}

/-- An array of rows holds real numbers. -/
def Rows (v : FVec Ideal S2048x128 .f32) (u : Fin 2048 → Fin 128 → ℝ) : Prop :=
  ∀ (B : Fin 2048) (i : Fin 128), v (ix2 B i) = ((u B i : ℝ) : EReal)

/-- A masked part of real matrices, at an entry. -/
theorem part_real (p : CmpIPredicate) (B : Fin 2048) (i k : Fin 128) (q : Prop) [Decidable q]
    (hA : ∀ B i k, A (ix3 B i k) = ((Ar B i k : ℝ) : EReal))
    (h : IntOp.cmpi p (BitVec.ofNat 32 i.val) (BitVec.ofNat 32 k.val) = 1#1 ↔ q) :
    part p A (ix3 B i k) = ((if q then Ar B i k else 0 : ℝ) : EReal) := by
  refine (choose_apply _ _ _ (ix3 B i k) q ?_).trans ?_
  · show IntOp.cmpi p (rowNo (ix3 B i k)) (colNo (ix3 B i k)) = 1#1 ↔ q
    rw [rowNo_apply, colNo_apply]
    exact h
  · rw [broadcast_apply, zero, hA B i k]
    by_cases hq : q
    · rw [if_pos hq, if_pos hq]
    · rw [if_neg hq, if_neg hq]

/-- The residual of an iterate. -/
theorem resid_real (hA : ∀ B i k, A (ix3 B i k) = ((Ar B i k : ℝ) : EReal)) (hb : Rows b br) (hx : Rows x xr) :
    Rows (k0_pay1 A b x) fun B => Sor.resid (Ar B) (br B) (xr B) := by
  intro B i
  rw [show k0_pay1 A b x = subf (addf (total (mulf A (across x))) (mulf (mulf x x) x)) b from rfl]
  rw [subf_apply, addf_apply, mulf_apply, mulf_apply, total_apply, hx B i, hb B i]
  rw [Finset.sum_congr rfl fun k _ => show _ = ((Ar B i k * xr B k : ℝ) : EReal) by
    rw [mulf_apply, across_apply, hA B i k, hx B k, EReal.coe_mul]]
  rw [sum_real, ← EReal.coe_mul, ← EReal.coe_mul, ← EReal.coe_add, ← EReal.coe_sub]
  rfl

/-- The Jacobian's diagonal. -/
theorem diag_real (hA : ∀ B i k, A (ix3 B i k) = ((Ar B i k : ℝ) : EReal)) (hx : Rows x xr) :
    Rows (addf (total (part .eq A)) (mulf (broadcast S2048x128 (Scalar.ofBits .f32 0x40400000#32)) (mulf x x)))
      fun B => Sor.diag (Ar B) (xr B) := by
  intro B i
  have hi := i.isLt
  rw [addf_apply, mulf_apply, mulf_apply, total_apply, broadcast_apply, three, hx B i]
  rw [Finset.sum_congr rfl fun k _ => part_real .eq B i k (i = k) hA
    ((word_eq _ _ (by omega) (by have := k.isLt; omega)).trans Fin.ext_iff.symm)]
  rw [sum_real, Finset.sum_ite_eq Finset.univ i, if_pos (Finset.mem_univ _), ← EReal.coe_mul, ← EReal.coe_mul, ← EReal.coe_add]
  rfl

/-- What the substituted unknowns take off a row. -/
theorem lower_real (hA : ∀ B i k, A (ix3 B i k) = ((Ar B i k : ℝ) : EReal))
    (hom : ∀ B, om (ix2 B (0 : Fin 1)) = ((w B : ℝ) : EReal)) (hy : Rows y yr) :
    Rows (total (mulf (mulf (factors om) (part .sgt A)) (across y)))
      fun B i => ∑ k : Fin 128, w B * (if k.val < i.val then Ar B i k else 0) * yr B k := by
  intro B i
  have hi := i.isLt
  rw [total_apply, Finset.sum_congr rfl fun k _ =>
    show _ = ((w B * (if k.val < i.val then Ar B i k else 0) * yr B k : ℝ) : EReal) by
      rw [mulf_apply, mulf_apply, factors_apply, across_apply, hom B, hy B k,
        part_real .sgt B i k (k.val < i.val) hA (word_gt _ _ (by omega) (by have := k.isLt; omega)), EReal.coe_mul, EReal.coe_mul]]
  exact sum_real _ _

/-- One row of the substitution. -/
theorem row_real (hA : ∀ B i k, A (ix3 B i k) = ((Ar B i k : ℝ) : EReal)) (hom : ∀ B, om (ix2 B (0 : Fin 1)) = ((w B : ℝ) : EReal))
    (hx : Rows x xr) (hr : Rows r rr) (hy : Rows y yr) (hd : ∀ B i, 0 < Ar B i i) (n : Fin k0_t2_loop.trips) (hn : n.val < 128) :
    Rows (k0_pay3 A om x r n y) fun B => Sor.row (Ar B) (w B) (xr B) (rr B) n.val (yr B) := by
  intro B i
  have hi := i.isLt
  rw [show k0_pay3 A om x r n y
      = select (cmpi .eq (iota .tc S2048x128 32 [1] iota_S2048x128_d1_w32) (broadcast S2048x128 (Scf.iv 0#32 1#32 n.val)))
          (divf (subf r (total (mulf (mulf (factors om) (part .sgt A)) (across y))))
            (addf (total (part .eq A)) (mulf (broadcast S2048x128 (Scalar.ofBits .f32 0x40400000#32)) (mulf x x)))) y from rfl]
  refine (choose_apply _ _ _ (ix2 B i) (i.val = n.val) ?_).trans ?_
  · show IntOp.cmpi .eq (BitVec.ofNat 32 (0 * 128 + i.val)) (0#32 + BitVec.ofNat 32 n.val * 1#32) = 1#1 ↔ _
    rw [Nat.zero_mul, Nat.zero_add, BitVec.mul_one, BitVec.zero_add]
    exact word_eq _ _ (by omega) (by omega)
  unfold Sor.row
  beta_reduce
  by_cases h : i.val = n.val
  · rw [if_pos h, if_pos h, divf_apply, subf_apply, hr B i, lower_real hA hom hy B i, diag_real hA hx B i, ← EReal.coe_sub]
    have hne : Sor.diag (Ar B) (xr B) i ≠ 0 := by
      unfold Sor.diag
      have := hd B i
      have := mul_self_nonneg (xr B i)
      exact ne_of_gt (by linarith)
    rw [Ideal.div_coe hne, ← EReal.coe_mul, mul_one_div]
  · rw [if_neg h, if_neg h, hy B i]

/-- The substitution. -/
theorem solve_real (hA : ∀ B i k, A (ix3 B i k) = ((Ar B i k : ℝ) : EReal)) (hom : ∀ B, om (ix2 B (0 : Fin 1)) = ((w B : ℝ) : EReal))
    (hx : Rows x xr) (hr : Rows r rr) (hd : ∀ B i, 0 < Ar B i i) :
    Rows (solve A om x r) fun B => Sor.subst (Ar B) (w B) (xr B) (rr B) 128 := by
  have ht : k0_t2_loop.trips = 128 := by decide
  have h := fold_holds (fun n y => Rows y fun B => Sor.subst (Ar B) (w B) (xr B) (rr B) n) k0_t2_loop.trips
    (fun k y => k0_pay3 A om x r k y) k0_pay2 (fun B i => by
      show (Scalar.ofBits .f32 0x00000000#32 : Ideal .f32) = _
      rw [zero]; rfl)
    (fun k y hy => row_real hA hom hx hr hy hd k (lt_of_lt_of_eq k.isLt ht))
  intro B i
  have e := h B i
  beta_reduce at e
  rwa [show Sor.subst (Ar B) (w B) (xr B) (rr B) k0_t2_loop.trips = Sor.subst (Ar B) (w B) (xr B) (rr B) 128 from
    congrArg _ ht] at e

/-- The new iterate. -/
theorem next_real (hA : ∀ B i k, A (ix3 B i k) = ((Ar B i k : ℝ) : EReal)) (hom : ∀ B, om (ix2 B (0 : Fin 1)) = ((w B : ℝ) : EReal))
    (hx : Rows x xr) (hr : Rows r fun B => Sor.resid (Ar B) (br B) (xr B)) (hd : ∀ B i, 0 < Ar B i i) :
    Rows (k0_pay4 om x (solve A om x r)) fun B => Sor.next (Ar B) (br B) (w B) (xr B) := by
  intro B i
  unfold k0_pay4
  rw [subf_apply, mulf_apply, factor2_apply, hom B, hx B i, solve_real hA hom hx hr hd B i, ← EReal.coe_mul, ← EReal.coe_sub,
    Sor.next_eq]

/-- All the steps. -/
theorem iter_real (hA : ∀ B i k, A (ix3 B i k) = ((Ar B i k : ℝ) : EReal)) (hom : ∀ B, om (ix2 B (0 : Fin 1)) = ((w B : ℝ) : EReal))
    (hb : Rows b br) (hd : ∀ B i, 0 < Ar B i i) (hx : Rows x xr) (n : Nat) :
    Rows (refIter A b om (x, k0_pay1 A b x) n).1 (fun B => Sor.iter (Ar B) (br B) (w B) (xr B) n)
    ∧ Rows (refIter A b om (x, k0_pay1 A b x) n).2
        (fun B => Sor.resid (Ar B) (br B) (Sor.iter (Ar B) (br B) (w B) (xr B) n)) := by
  induction n with
  | zero => exact ⟨hx, resid_real hA hb hx⟩
  | succ n ih =>
    have h := next_real hA hom ih.1 ih.2 hd
    exact ⟨h, resid_real hA hb h⟩

/-- The reference's value. -/
theorem refOut_real (hA : ∀ B i k, A (ix3 B i k) = ((Ar B i k : ℝ) : EReal)) (hom : ∀ B, om (ix2 B (0 : Fin 1)) = ((w B : ℝ) : EReal))
    (hb : Rows b br) (hd : ∀ B i, 0 < Ar B i i) (hx : Rows x xr) :
    Rows (refOut x A b om) fun B => Sor.iter (Ar B) (br B) (w B) (xr B) 16 :=
  (iter_real hA hom hb hd hx 16).1

end Cert.Proof.ReferenceIdeal

end
-- ==== Proof.RefFrame.lean ====
module

public import proofs.«01_k».proof.Proof.RefBody
public import Idealize.ShloMosaic.Lib.Pipeline.Value
public import Idealize.ShloMosaic.Lib.Claim

/-! The reference's run: at the end its result holds the value `refOut` of the arguments; the arguments are as launched
and every semaphore is at zero. -/

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The value the body leaves in the output window. -/
def outBlock (c : Dev nD) (t : Fin cfg0.N) : FVec F S2048x128 .f32 :=
  refOut (iblk m c 0 t) (iblk m c 1 t) (iblk m c 2 t) (iblk m c 3 t)

/-- The pipeline's proof data: inputs stay at their blocks, the output window holds `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outBlock
  iintro ⟨Hg, Ho, ⟨%d0, H0⟩, ⟨%d1, H1⟩, ⟨%d2, H2⟩, ⟨%d3, H3⟩, ⟨%d4, H4⟩⟩
  iapply (body_run c _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [Hg]; · iexact Hg
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What every buffer holds after the run, by the library's account. -/
abbrev post := Pipeline.FramePost cfgs (dats m) 0 (V m)

set_option backward.isDefEq.respectTransparency.types false in
/-- The launch: every execution ends, at the account above, with every semaphore at zero. -/
theorem run_quiet : θ_run defs (onTc (τ := τ) (main (F := F))) (s₀ m ρ) (fun r => post m r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (post m) :=
  (θ_run defs _ _).mono (fun _ h => h.1) (run_quiet m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

end Cert.Proof.ReferenceIdeal

end
-- ==== Proof.RefValue.lean ====
module

public import proofs.«01_k».proof.Proof.RefFrame

/-! The reference's result as a function of its arguments: its one grid point reads and writes whole arrays. -/

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

variable (m : (ℓ : Loc nD τ sig) → Buf (Elt F) ℓ) (ρ : Dev nD → PrngReg)

/-- The only grid point. -/
def only : Fin cfg0.N := ⟨0, by decide⟩

/-- Every window's block index is zero. -/
theorem index_zero : ∀ t : Fin cfg0.N,
    (∀ a, win0_0.index t a = 0) ∧ (∀ a, win0_1.index t a = 0) ∧ (∀ a, win0_2.index t a = 0)
    ∧ (∀ a, win0_3.index t a = 0) ∧ (∀ a, win0_4.index t a = 0) :=
  (by decide +kernel : ∀ t : Fin grid0.N,
    (∀ a, win0_0.index t a = 0) ∧ (∀ a, win0_1.index t a = 0) ∧ (∀ a, win0_2.index t a = 0)
    ∧ (∀ a, win0_3.index t a = 0) ∧ (∀ a, win0_4.index t a = 0))

/-- The first window's block is the start. -/
theorem whole_x (c : Dev nD) : (iblk m c 0 only : Vec F S2048x128 .f32) = m ((c : Thread nD τ).loc main_arg0) := by
  funext j
  unfold iblk
  rw [View.read_apply]
  show V m c main_arg0 _ = _
  rw [V_main_arg0]
  congr 1
  funext a
  apply Fin.ext
  match a with
  | ⟨0, _⟩ => show win0_0.index only 0 * 2048 + 1 * (j 0).val = (j 0).val; rw [(index_zero only).1]; omega
  | ⟨1, _⟩ => show win0_0.index only 1 * 128 + 1 * (j 1).val = (j 1).val; rw [(index_zero only).1]; omega

/-- The second's is the matrices. -/
theorem whole_A (c : Dev nD) : (iblk m c 1 only : Vec F S2048x128x128 .f32) = m ((c : Thread nD τ).loc main_arg1) := by
  funext j
  unfold iblk
  rw [View.read_apply]
  show V m c main_arg1 _ = _
  rw [V_main_arg1]
  congr 1
  funext a
  apply Fin.ext
  match a with
  | ⟨0, _⟩ => show win0_1.index only 0 * 2048 + 1 * (j 0).val = (j 0).val; rw [(index_zero only).2.1]; omega
  | ⟨1, _⟩ => show win0_1.index only 1 * 128 + 1 * (j 1).val = (j 1).val; rw [(index_zero only).2.1]; omega
  | ⟨2, _⟩ => show win0_1.index only 2 * 128 + 1 * (j 2).val = (j 2).val; rw [(index_zero only).2.1]; omega

/-- The third's is the right-hand sides. -/
theorem whole_b (c : Dev nD) : (iblk m c 2 only : Vec F S2048x128 .f32) = m ((c : Thread nD τ).loc main_arg2) := by
  funext j
  unfold iblk
  rw [View.read_apply]
  show V m c main_arg2 _ = _
  rw [V_main_arg2]
  congr 1
  funext a
  apply Fin.ext
  match a with
  | ⟨0, _⟩ => show win0_2.index only 0 * 2048 + 1 * (j 0).val = (j 0).val; rw [(index_zero only).2.2.1]; omega
  | ⟨1, _⟩ => show win0_2.index only 1 * 128 + 1 * (j 1).val = (j 1).val; rw [(index_zero only).2.2.1]; omega

/-- The fourth's is the relaxation factors. -/
theorem whole_om (c : Dev nD) : (iblk m c 3 only : Vec F S2048x1 .f32) = m ((c : Thread nD τ).loc main_arg3) := by
  funext j
  unfold iblk
  rw [View.read_apply]
  show V m c main_arg3 _ = _
  rw [V_main_arg3]
  congr 1
  funext a
  apply Fin.ext
  match a with
  | ⟨0, _⟩ => show win0_3.index only 0 * 2048 + 1 * (j 0).val = (j 0).val; rw [(index_zero only).2.2.2.1]; omega
  | ⟨1, _⟩ => show win0_3.index only 1 * 1 + 1 * (j 1).val = (j 1).val; rw [(index_zero only).2.2.2.1]; omega

/-- No two grid points write the same block: there is only one. -/
theorem disjoint_out : ∀ t t' : Fin cfg0.N, (cfg0.win 4).flush t = true → (cfg0.win 4).flush t' = true → t ≠ t' →
    Disjoint ((cfg0.win 4).blk t).view.set ((cfg0.win 4).blk t').view.set :=
  fun t t' _ _ hne => absurd (Fin.ext (by
    have h : t.val < 1 := t.isLt
    have h' : t'.val < 1 := t'.isLt
    omega)) hne

/-- The result as a function of the arguments. -/
theorem result_eq (c : Dev nD) : (dats m 0 c).arrAt 4 cfg0.N
    = (refOut (m ((c : Thread nD τ).loc main_arg0)) (m ((c : Thread nD τ).loc main_arg1)) (m ((c : Thread nD τ).loc main_arg2))
        (m ((c : Thread nD τ).loc main_arg3)) : S2048x128.Idx → Elt F .f32) := by
  funext j
  have h := congrFun ((dats m 0 c).read_blk_arrAt_eq_flushed 4 disjoint_out cfg0.N only only.isLt (flush0_4 only)) j
  rw [View.read_apply] at h
  have hfl : (dats m 0 c).flushed 4 only = outBlock m c only := by
    show (cfg0.win 4).cut (grid0.coords only) ((dats m 0 c).after 4 only) = _
    rw [after4]
    rfl
  rw [hfl] at h
  unfold outBlock at h
  rw [whole_x, whole_A, whole_b, whole_om] at h
  refine Eq.trans ?_ h
  show (dats m 0 c).arrAt 4 cfg0.N j = (dats m 0 c).arrAt 4 cfg0.N _
  congr 1
  funext a
  apply Fin.ext
  match a with
  | ⟨0, _⟩ => show (j 0).val = win0_4.index only 0 * 2048 + 1 * (j 0).val; rw [(index_zero only).2.2.2.2]; omega
  | ⟨1, _⟩ => show (j 1).val = win0_4.index only 1 * 128 + 1 * (j 1).val; rw [(index_zero only).2.2.2.2]; omega

/-- The run, with the result named. -/
theorem run_value : θ_run defs (onTc (τ := τ) (main (F := F))) ⟨m, fun _ => 0, ρ⟩ (fun r => ∀ c : Dev nD,
      r.2.mem ((c.tc : Thread nD τ).loc main_v0)
        = (refOut (m ((c : Thread nD τ).loc main_arg0)) (m ((c : Thread nD τ).loc main_arg1)) (m ((c : Thread nD τ).loc main_arg2))
            (m ((c : Thread nD τ).loc main_arg3)) : S2048x128.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (result_eq m c), h.2 c⟩)
    (θ_run_and (run_main m ρ) (unchanged m ρ))

end Cert.Proof.ReferenceIdeal

end
-- ==== Proof.Regular.lean ====
module

public import proofs.«01_k».proof.Proof.Gen.Pre_regular
public import Idealize.ShloMosaic.Lib.StableHlo.Predicate
public import Idealize.ShloMosaic.Lib.ReduceAll
public import Idealize.ShloMosaic.Lib.ValueIdx

/-! What the precondition says of the arguments: every entry is a real number, and the matrices' diagonals are positive. -/

@[expose] public section

set_option maxRecDepth 16384

noncomputable section

namespace Cert.Proof.Regular

open Cert.Pre_regular Cert.Pre_regular.Gen
open Idealize.ShloMosaic Idealize.ShloMosaic.ValueIdx

/-- A scalar has one entry. -/
instance : Subsingleton S_.Idx := ⟨fun a b => funext fun d => d.elim0⟩

/-- The infinity the magnitudes are compared with. -/
theorem infinity : (Scalar.ofBits .f32 0x7F800000#32 : Ideal .f32) = (⊤ : EReal) := by
  show Ideal.ofBits .f32 0x7F800000#32 = _
  simp [Ideal.ofBits, Ideal.ieee]

/-- The zero the diagonals are compared with. -/
theorem zero : (Scalar.ofBits .f32 0x00000000#32 : Ideal .f32) = (0 : EReal) := by
  show Ideal.ofBits .f32 0x00000000#32 = _
  simp [Ideal.ofBits, Ideal.ieee]

/-- Both sides of a true conjunction are true. -/
theorem both {a b : IVec S_ 1} (j : S_.Idx) (h : andi a b j = 1#1) : a j = 1#1 ∧ b j = 1#1 :=
  IntOp.andi_eq_one.1 h

/-- A value of magnitude below infinity is a real number. -/
theorem real_of_below (a : Ideal .f32) (h : FloatOps.cmpf .olt (FloatOps.absf a) (Scalar.ofBits .f32 0x7F800000#32 : Ideal .f32) = 1#1) :
    a = ((EReal.toReal a : ℝ) : EReal) := by
  rw [infinity] at h
  have h' : max (a : EReal) (-a) < ⊤ := by
    by_contra hn
    have : BitVec.ofBool (decide (max (a : EReal) (-a) < ⊤)) = 1#1 := h
    rw [decide_eq_false hn] at this
    exact absurd this (by decide)
  refine (EReal.coe_toReal ?_ ?_).symm
  · rintro rfl
    simp at h'
  · rintro rfl
    simp at h'

/-- An array all of whose magnitudes are below infinity holds reals. -/
theorem real_of_all {s : Shape} (a : FVec Ideal s .f32) (hb : S_.BroadcastsInDim s (![] : Fin 0 → Fin s.rank)) {ax : List (Fin s.rank)}
    (hr : s.ReducesTo ax S_) (hu : 0 < S_.numel) (j : S_.Idx)
    (h : Host.reduce IntOp.andi (cmpf .olt (Host.absf a) (broadcastInDim s ![] hb (constant S_ .f32 0x7F800000#32))) (constantI S_ 1 1#1) hr hu j
      = 1#1) (i : s.Idx) : a i = ((EReal.toReal (a i) : ℝ) : EReal) :=
  real_of_below (a i) (Host.reduce_andi_all _ _ hr hu j h i)

/-- Where a comparison with zero holds, the value is positive. -/
theorem positive_of_above (a : Ideal .f32) (h : FloatOps.cmpf .ogt a (Scalar.ofBits .f32 0x00000000#32 : Ideal .f32) = 1#1) :
    (0 : EReal) < a := by
  rw [zero] at h
  by_contra hn
  have : BitVec.ofBool (decide ((0 : EReal) < a)) = 1#1 := h
  rw [decide_eq_false hn] at this
  exact absurd this (by decide)

/-- Either side of a true disjunction of two bits is true. -/
theorem either {a b : BitVec 1} (h : IntOp.ori a b = 1#1) : a = 1#1 ∨ b = 1#1 := by
  rcases BitVec.eq_zero_or_eq_one a with rfl | rfl
  · rcases BitVec.eq_zero_or_eq_one b with rfl | rfl
    · exact absurd h (by decide)
    · exact .inr rfl
  · exact .inl rfl

/-- The precondition, read back. -/
theorem read_back (x : FVec Ideal S2048x128 .f32) (A : FVec Ideal S2048x128x128 .f32) (b : FVec Ideal S2048x128 .f32)
    (om : FVec Ideal S2048x1 .f32) (h : Cert.Pre_regular.fn (F := Ideal) x A b om = fun _ => 1#1) :
    (∀ j, x j = ((EReal.toReal (x j) : ℝ) : EReal)) ∧ (∀ j, A j = ((EReal.toReal (A j) : ℝ) : EReal))
    ∧ (∀ j, b j = ((EReal.toReal (b j) : ℝ) : EReal)) ∧ (∀ j, om j = ((EReal.toReal (om j) : ℝ) : EReal))
    ∧ ∀ (B : Fin 2048) (i : Fin 128), 0 < EReal.toReal (A (ix3 B i i)) := by
  have j : S_.Idx := fun d => d.elim0
  have h0 := congrFun h j
  unfold Cert.Pre_regular.fn Cert.Pre_regular.fn_part1 at h0
  dsimp only at h0
  obtain ⟨h1, hd⟩ := both j h0
  obtain ⟨h2, ho⟩ := both j h1
  obtain ⟨h3, hb⟩ := both j h2
  obtain ⟨hx, hA⟩ := both j h3
  have rA := real_of_all A _ _ _ j hA
  refine ⟨real_of_all x _ _ _ j hx, rA, real_of_all b _ _ _ j hb, real_of_all om _ _ _ j ho, fun B i => ?_⟩
  have he := Host.reduce_andi_all _ _ _ _ j hd (ix3 B i i)
  have hp : (0 : EReal) < A (ix3 B i i) := by
    rcases either he with hne | hgt
    · exfalso
      have hc : IntOp.cmpi .ne (BitVec.ofNat 32 i.val) (BitVec.ofNat 32 i.val) = 1#1 := hne
      simp [IntOp.cmpi] at hc
    · exact positive_of_above _ hgt
  rw [rA (ix3 B i i)] at hp
  exact EReal.coe_pos.1 hp

end Cert.Proof.Regular

end
-- ==== Proof.Agree.lean ====
module

public import proofs.«01_k».proof.Proof.KernelReal
public import proofs.«01_k».proof.Proof.RefReal
public import proofs.«01_k».proof.Proof.RefValue
public import proofs.«01_k».proof.Proof.Regular

/-! The two programs agree: where the precondition holds, both results are the sixteenth real iterate of every row's system. -/

@[expose] public section

set_option maxRecDepth 16384

noncomputable section

namespace Cert.Proof

open Idealize.ShloMosaic Idealize.ShloMosaic.TcCoe Idealize.ShloMosaic.ValueIdx Idealize.SL.Sem
open Cert.KernelIdeal

variable (m : (ℓ : Loc nD τ sig) → Buf (Elt Ideal) ℓ)

/-- The kernel's result is the reference's value of the same arguments. -/
theorem result_agrees (c : Dev nD)
    (h : Cert.Pre_regular.fn (F := Ideal) (m ((c : Thread nD τ).loc main_arg0)) (m ((c : Thread nD τ).loc main_arg1))
      (m ((c : Thread nD τ).loc main_arg2)) (m ((c : Thread nD τ).loc main_arg3)) = fun _ => 1#1) :
    KernelIdeal.result m c = ReferenceIdeal.refOut (F := Ideal) (m ((c : Thread nD τ).loc main_arg0)) (m ((c : Thread nD τ).loc main_arg1))
      (m ((c : Thread nD τ).loc main_arg2)) (m ((c : Thread nD τ).loc main_arg3)) := by
  obtain ⟨hx, hA, hb, ho, hd⟩ := Regular.read_back _ _ _ _ h
  have href := ReferenceIdeal.refOut_real (fun B i k => hA (ix3 B i k)) (fun B => ho (ix2 B (0 : Fin 1))) (fun B i => hb (ix2 B i))
    hd (fun B i => hx (ix2 B i))
  funext j
  obtain ⟨B, i, rfl⟩ : ∃ (B : Fin 2048) (i : Fin 128), j = ix2 B i := ⟨_, _, eq_ix2 j⟩
  have hB := B.isLt
  obtain ⟨t, l, rfl⟩ : ∃ (t : Fin cfg0.N) (l : Fin 128), B = KernelIdeal.batch t l :=
    ⟨⟨B.val / 128, (by omega : B.val / 128 < 16)⟩, ⟨B.val % 128, by omega⟩, Fin.ext (by
      show B.val = 128 * (B.val / 128) + B.val % 128
      omega)⟩
  refine (KernelIdeal.result_apply m c t l i).trans (Eq.trans ?_ (href (KernelIdeal.batch t l) i).symm)
  unfold KernelIdeal.outBlock
  exact KernelIdeal.blockOut_real _ _ _ _
    (fun l j i => (KernelIdeal.blk_A m c t l j i).trans (hA _)) (fun l i => (KernelIdeal.blk_x m c t i l).trans (hx _))
    (fun l i => (KernelIdeal.blk_b m c t i l).trans (hb _)) (fun l => (KernelIdeal.blk_om m c t l).trans (ho _))
    (fun l i => hd (KernelIdeal.batch t l) i) l i

end Cert.Proof

end
-- ==== Proof.lean ====
/- The proof of the claims stated in `Defs.lean`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_regular
public import proofs.«01_k».proof.Proof.CompiledFrame
public import proofs.«01_k».proof.Proof.Agree
public import Idealize.ShloMosaic.Adequacy
public import Idealize.ShloMosaic.Init

@[expose] public section

noncomputable section

namespace Cert.Proof

open Idealize.ShloMosaic Idealize.SL.Sem

/-- From memories that agree on the arguments and meet the precondition, the kernel and the reference end with equal results
and leave their arguments as they were. -/
theorem algebraic : Cert.algebraic_KernelIdeal_ReferenceIdeal_pre_regular (hKernelIdeal := Cert.KernelIdeal.Gen.facts)
    (hReferenceIdeal := Cert.ReferenceIdeal.Gen.facts) (hPre_regular := Cert.Pre_regular.Gen.facts) := by
  intro m g m' g' hpre hargs
  refine ⟨fun c => KernelIdeal.result m c, KernelIdeal.run_value m g,
    (θ_run Cert.ReferenceIdeal.defs _ _).mono (fun r h c => ⟨(h c).1.trans ?_, (h c).2⟩) (ReferenceIdeal.run_value m' g')⟩
  rw [(hargs c).1, (hargs c).2.1, (hargs c).2.2.1, (hargs c).2.2.2]
  exact (result_agrees m c (hpre c)).symm

/-- Every claim. -/
theorem claim : Cert.Claim := ⟨Cert.Kernel.Gen.facts, Cert.KernelIdeal.Gen.facts, Cert.ReferenceIdeal.Gen.facts, Cert.Pre_regular.Gen.facts,
  fun m ρ _ => Cert.Proof.Kernel.frame m ρ, fun m ρ _ => Cert.Proof.KernelIdeal.frame m ρ, fun m ρ _ => Cert.Proof.KernelIdeal.frame m ρ,
  fun m ρ _ => Cert.Proof.ReferenceIdeal.frame m ρ, fun m ρ _ => Cert.Proof.ReferenceIdeal.frame m ρ, trivial, algebraic⟩

end Cert.Proof

end
